-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelGmlp (m : (ℓ : Loc Cert.KernelGmlp.nD Cert.KernelGmlp.τ Cert.KernelGmlp.sig) → Buf (Elt Bits) ℓ) : Prop :=
  True

def Pre_KernelGmlpIdeal (m : (ℓ : Loc Cert.KernelGmlpIdeal.nD Cert.KernelGmlpIdeal.τ Cert.KernelGmlpIdeal.sig) → Buf (Elt Ideal) ℓ) : Prop :=
  True

def Pre_ReferenceGmlpIdeal (m : (ℓ : Loc Cert.ReferenceGmlpIdeal.nD Cert.ReferenceGmlpIdeal.τ Cert.ReferenceGmlpIdeal.sig) → Buf (Elt Ideal) ℓ) : Prop :=
  True

def Pre_KernelMemkv (m : (ℓ : Loc Cert.KernelMemkv.nD Cert.KernelMemkv.τ Cert.KernelMemkv.sig) → Buf (Elt Bits) ℓ) : Prop :=
  True

def Pre_KernelMemkvIdeal (m : (ℓ : Loc Cert.KernelMemkvIdeal.nD Cert.KernelMemkvIdeal.τ Cert.KernelMemkvIdeal.sig) → Buf (Elt Ideal) ℓ) : Prop :=
  True

def Pre_ReferenceMemkvIdeal (m : (ℓ : Loc Cert.ReferenceMemkvIdeal.nD Cert.ReferenceMemkvIdeal.τ Cert.ReferenceMemkvIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_KernelMemIdeal_mem_finite [hPre_mem_finite : Cert.Pre_mem_finite.Facts] (m : (ℓ : Loc Cert.KernelMemIdeal.nD Cert.KernelMemIdeal.τ Cert.KernelMemIdeal.sig) → Buf (Elt Ideal) ℓ) : Prop :=
  ∀ c : Dev Cert.KernelMemIdeal.nD,
    (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3))).1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3))).2 = (fun _ => 1#1)

def Pre_ReferenceMemIdeal (m : (ℓ : Loc Cert.ReferenceMemIdeal.nD Cert.ReferenceMemIdeal.τ Cert.ReferenceMemIdeal.sig) → Buf (Elt Ideal) ℓ) : Prop :=
  True

def Pre_ReferenceMemIdeal_mem_finite [hPre_mem_finite : Cert.Pre_mem_finite.Facts] (m : (ℓ : Loc Cert.ReferenceMemIdeal.nD Cert.ReferenceMemIdeal.τ Cert.ReferenceMemIdeal.sig) → Buf (Elt Ideal) ℓ) : Prop :=
  ∀ c : Dev Cert.ReferenceMemIdeal.nD,
    (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3))).1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelGmlp [hKernelGmlp : Cert.KernelGmlp.Facts] : Prop :=
  ∀ (m : (ℓ : Loc Cert.KernelGmlp.nD Cert.KernelGmlp.τ Cert.KernelGmlp.sig) → Buf (Elt Bits) ℓ) (g : Dev Cert.KernelGmlp.nD → PrngReg), Pre_KernelGmlp m →
    θ_run (Cert.KernelGmlp.defs (F := Bits)) (onTc (τ := Cert.KernelGmlp.τ) (Cert.KernelGmlp.main (F := Bits))) ⟨m, fun _ => 0, g⟩ (fun r => (∀ c : Dev Cert.KernelGmlp.nD,
      r.2.mem ((c.tc : Thread Cert.KernelGmlp.nD Cert.KernelGmlp.τ).loc Cert.KernelGmlp.main_arg0) = m ((c.tc : Thread Cert.KernelGmlp.nD Cert.KernelGmlp.τ).loc Cert.KernelGmlp.main_arg0)
      ∧ r.2.mem ((c.tc : Thread Cert.KernelGmlp.nD Cert.KernelGmlp.τ).loc Cert.KernelGmlp.main_arg1) = m ((c.tc : Thread Cert.KernelGmlp.nD Cert.KernelGmlp.τ).loc Cert.KernelGmlp.main_arg1)
      ∧ r.2.mem ((c.tc : Thread Cert.KernelGmlp.nD Cert.KernelGmlp.τ).loc Cert.KernelGmlp.main_arg2) = m ((c.tc : Thread Cert.KernelGmlp.nD Cert.KernelGmlp.τ).loc Cert.KernelGmlp.main_arg2)
      ∧ r.2.mem ((c.tc : Thread Cert.KernelGmlp.nD Cert.KernelGmlp.τ).loc Cert.KernelGmlp.main_arg3) = m ((c.tc : Thread Cert.KernelGmlp.nD Cert.KernelGmlp.τ).loc Cert.KernelGmlp.main_arg3)
      ∧ r.2.mem ((c.tc : Thread Cert.KernelGmlp.nD Cert.KernelGmlp.τ).loc Cert.KernelGmlp.main_arg4) = m ((c.tc : Thread Cert.KernelGmlp.nD Cert.KernelGmlp.τ).loc Cert.KernelGmlp.main_arg4)
      ∧ r.2.mem ((c.tc : Thread Cert.KernelGmlp.nD Cert.KernelGmlp.τ).loc Cert.KernelGmlp.main_arg5) = m ((c.tc : Thread Cert.KernelGmlp.nD Cert.KernelGmlp.τ).loc Cert.KernelGmlp.main_arg5)
      ∧ r.2.mem ((c.tc : Thread Cert.KernelGmlp.nD Cert.KernelGmlp.τ).loc Cert.KernelGmlp.main_arg6) = m ((c.tc : Thread Cert.KernelGmlp.nD Cert.KernelGmlp.τ).loc Cert.KernelGmlp.main_arg6))
      ∧ r.2.sem = fun _ => 0)

def quiescent_KernelGmlpIdeal [hKernelGmlpIdeal : Cert.KernelGmlpIdeal.Facts] : Prop :=
  ∀ (m : (ℓ : Loc Cert.KernelGmlpIdeal.nD Cert.KernelGmlpIdeal.τ Cert.KernelGmlpIdeal.sig) → Buf (Elt Ideal) ℓ) (g : Dev Cert.KernelGmlpIdeal.nD → PrngReg), Pre_KernelGmlpIdeal m →
    θ_run (Cert.KernelGmlpIdeal.defs (F := Ideal)) (onTc (τ := Cert.KernelGmlpIdeal.τ) (Cert.KernelGmlpIdeal.main (F := Ideal))) ⟨m, fun _ => 0, g⟩ (fun r => (∀ c : Dev Cert.KernelGmlpIdeal.nD,
      r.2.mem ((c.tc : Thread Cert.KernelGmlpIdeal.nD Cert.KernelGmlpIdeal.τ).loc Cert.KernelGmlpIdeal.main_arg0) = m ((c.tc : Thread Cert.KernelGmlpIdeal.nD Cert.KernelGmlpIdeal.τ).loc Cert.KernelGmlpIdeal.main_arg0)
      ∧ r.2.mem ((c.tc : Thread Cert.KernelGmlpIdeal.nD Cert.KernelGmlpIdeal.τ).loc Cert.KernelGmlpIdeal.main_arg1) = m ((c.tc : Thread Cert.KernelGmlpIdeal.nD Cert.KernelGmlpIdeal.τ).loc Cert.KernelGmlpIdeal.main_arg1)
      ∧ r.2.mem ((c.tc : Thread Cert.KernelGmlpIdeal.nD Cert.KernelGmlpIdeal.τ).loc Cert.KernelGmlpIdeal.main_arg2) = m ((c.tc : Thread Cert.KernelGmlpIdeal.nD Cert.KernelGmlpIdeal.τ).loc Cert.KernelGmlpIdeal.main_arg2)
      ∧ r.2.mem ((c.tc : Thread Cert.KernelGmlpIdeal.nD Cert.KernelGmlpIdeal.τ).loc Cert.KernelGmlpIdeal.main_arg3) = m ((c.tc : Thread Cert.KernelGmlpIdeal.nD Cert.KernelGmlpIdeal.τ).loc Cert.KernelGmlpIdeal.main_arg3)
      ∧ r.2.mem ((c.tc : Thread Cert.KernelGmlpIdeal.nD Cert.KernelGmlpIdeal.τ).loc Cert.KernelGmlpIdeal.main_arg4) = m ((c.tc : Thread Cert.KernelGmlpIdeal.nD Cert.KernelGmlpIdeal.τ).loc Cert.KernelGmlpIdeal.main_arg4)
      ∧ r.2.mem ((c.tc : Thread Cert.KernelGmlpIdeal.nD Cert.KernelGmlpIdeal.τ).loc Cert.KernelGmlpIdeal.main_arg5) = m ((c.tc : Thread Cert.KernelGmlpIdeal.nD Cert.KernelGmlpIdeal.τ).loc Cert.KernelGmlpIdeal.main_arg5)
      ∧ r.2.mem ((c.tc : Thread Cert.KernelGmlpIdeal.nD Cert.KernelGmlpIdeal.τ).loc Cert.KernelGmlpIdeal.main_arg6) = m ((c.tc : Thread Cert.KernelGmlpIdeal.nD Cert.KernelGmlpIdeal.τ).loc Cert.KernelGmlpIdeal.main_arg6))
      ∧ r.2.sem = fun _ => 0)

def quiescent_ReferenceGmlpIdeal [hReferenceGmlpIdeal : Cert.ReferenceGmlpIdeal.Facts] : Prop :=
  ∀ (m : (ℓ : Loc Cert.ReferenceGmlpIdeal.nD Cert.ReferenceGmlpIdeal.τ Cert.ReferenceGmlpIdeal.sig) → Buf (Elt Ideal) ℓ) (g : Dev Cert.ReferenceGmlpIdeal.nD → PrngReg), Pre_ReferenceGmlpIdeal m →
    θ_run (Cert.ReferenceGmlpIdeal.defs (F := Ideal)) (onTc (τ := Cert.ReferenceGmlpIdeal.τ) (Cert.ReferenceGmlpIdeal.main (F := Ideal))) ⟨m, fun _ => 0, g⟩ (fun r => (∀ c : Dev Cert.ReferenceGmlpIdeal.nD,
      r.2.mem ((c.tc : Thread Cert.ReferenceGmlpIdeal.nD Cert.ReferenceGmlpIdeal.τ).loc Cert.ReferenceGmlpIdeal.main_arg0) = m ((c.tc : Thread Cert.ReferenceGmlpIdeal.nD Cert.ReferenceGmlpIdeal.τ).loc Cert.ReferenceGmlpIdeal.main_arg0)
      ∧ r.2.mem ((c.tc : Thread Cert.ReferenceGmlpIdeal.nD Cert.ReferenceGmlpIdeal.τ).loc Cert.ReferenceGmlpIdeal.main_arg1) = m ((c.tc : Thread Cert.ReferenceGmlpIdeal.nD Cert.ReferenceGmlpIdeal.τ).loc Cert.ReferenceGmlpIdeal.main_arg1)
      ∧ r.2.mem ((c.tc : Thread Cert.ReferenceGmlpIdeal.nD Cert.ReferenceGmlpIdeal.τ).loc Cert.ReferenceGmlpIdeal.main_arg2) = m ((c.tc : Thread Cert.ReferenceGmlpIdeal.nD Cert.ReferenceGmlpIdeal.τ).loc Cert.ReferenceGmlpIdeal.main_arg2)
      ∧ r.2.mem ((c.tc : Thread Cert.ReferenceGmlpIdeal.nD Cert.ReferenceGmlpIdeal.τ).loc Cert.ReferenceGmlpIdeal.main_arg3) = m ((c.tc : Thread Cert.ReferenceGmlpIdeal.nD Cert.ReferenceGmlpIdeal.τ).loc Cert.ReferenceGmlpIdeal.main_arg3)
      ∧ r.2.mem ((c.tc : Thread Cert.ReferenceGmlpIdeal.nD Cert.ReferenceGmlpIdeal.τ).loc Cert.ReferenceGmlpIdeal.main_arg4) = m ((c.tc : Thread Cert.ReferenceGmlpIdeal.nD Cert.ReferenceGmlpIdeal.τ).loc Cert.ReferenceGmlpIdeal.main_arg4)
      ∧ r.2.mem ((c.tc : Thread Cert.ReferenceGmlpIdeal.nD Cert.ReferenceGmlpIdeal.τ).loc Cert.ReferenceGmlpIdeal.main_arg5) = m ((c.tc : Thread Cert.ReferenceGmlpIdeal.nD Cert.ReferenceGmlpIdeal.τ).loc Cert.ReferenceGmlpIdeal.main_arg5)
      ∧ r.2.mem ((c.tc : Thread Cert.ReferenceGmlpIdeal.nD Cert.ReferenceGmlpIdeal.τ).loc Cert.ReferenceGmlpIdeal.main_arg6) = m ((c.tc : Thread Cert.ReferenceGmlpIdeal.nD Cert.ReferenceGmlpIdeal.τ).loc Cert.ReferenceGmlpIdeal.main_arg6))
      ∧ r.2.sem = fun _ => 0)

def quiescent_KernelMemkv [hKernelMemkv : Cert.KernelMemkv.Facts] : Prop :=
  ∀ (m : (ℓ : Loc Cert.KernelMemkv.nD Cert.KernelMemkv.τ Cert.KernelMemkv.sig) → Buf (Elt Bits) ℓ) (g : Dev Cert.KernelMemkv.nD → PrngReg), Pre_KernelMemkv m →
    θ_run (Cert.KernelMemkv.defs (F := Bits)) (onTc (τ := Cert.KernelMemkv.τ) (Cert.KernelMemkv.main (F := Bits))) ⟨m, fun _ => 0, g⟩ (fun r => (∀ c : Dev Cert.KernelMemkv.nD,
      r.2.mem ((c.tc : Thread Cert.KernelMemkv.nD Cert.KernelMemkv.τ).loc Cert.KernelMemkv.main_arg0) = m ((c.tc : Thread Cert.KernelMemkv.nD Cert.KernelMemkv.τ).loc Cert.KernelMemkv.main_arg0)
      ∧ r.2.mem ((c.tc : Thread Cert.KernelMemkv.nD Cert.KernelMemkv.τ).loc Cert.KernelMemkv.main_arg1) = m ((c.tc : Thread Cert.KernelMemkv.nD Cert.KernelMemkv.τ).loc Cert.KernelMemkv.main_arg1))
      ∧ r.2.sem = fun _ => 0)

def quiescent_KernelMemkvIdeal [hKernelMemkvIdeal : Cert.KernelMemkvIdeal.Facts] : Prop :=
  ∀ (m : (ℓ : Loc Cert.KernelMemkvIdeal.nD Cert.KernelMemkvIdeal.τ Cert.KernelMemkvIdeal.sig) → Buf (Elt Ideal) ℓ) (g : Dev Cert.KernelMemkvIdeal.nD → PrngReg), Pre_KernelMemkvIdeal m →
    θ_run (Cert.KernelMemkvIdeal.defs (F := Ideal)) (onTc (τ := Cert.KernelMemkvIdeal.τ) (Cert.KernelMemkvIdeal.main (F := Ideal))) ⟨m, fun _ => 0, g⟩ (fun r => (∀ c : Dev Cert.KernelMemkvIdeal.nD,
      r.2.mem ((c.tc : Thread Cert.KernelMemkvIdeal.nD Cert.KernelMemkvIdeal.τ).loc Cert.KernelMemkvIdeal.main_arg0) = m ((c.tc : Thread Cert.KernelMemkvIdeal.nD Cert.KernelMemkvIdeal.τ).loc Cert.KernelMemkvIdeal.main_arg0)
      ∧ r.2.mem ((c.tc : Thread Cert.KernelMemkvIdeal.nD Cert.KernelMemkvIdeal.τ).loc Cert.KernelMemkvIdeal.main_arg1) = m ((c.tc : Thread Cert.KernelMemkvIdeal.nD Cert.KernelMemkvIdeal.τ).loc Cert.KernelMemkvIdeal.main_arg1))
      ∧ r.2.sem = fun _ => 0)

def quiescent_ReferenceMemkvIdeal [hReferenceMemkvIdeal : Cert.ReferenceMemkvIdeal.Facts] : Prop :=
  ∀ (m : (ℓ : Loc Cert.ReferenceMemkvIdeal.nD Cert.ReferenceMemkvIdeal.τ Cert.ReferenceMemkvIdeal.sig) → Buf (Elt Ideal) ℓ) (g : Dev Cert.ReferenceMemkvIdeal.nD → PrngReg), Pre_ReferenceMemkvIdeal m →
    θ_run (Cert.ReferenceMemkvIdeal.defs (F := Ideal)) (onTc (τ := Cert.ReferenceMemkvIdeal.τ) (Cert.ReferenceMemkvIdeal.main (F := Ideal))) ⟨m, fun _ => 0, g⟩ (fun r => (∀ c : Dev Cert.ReferenceMemkvIdeal.nD,
      r.2.mem ((c.tc : Thread Cert.ReferenceMemkvIdeal.nD Cert.ReferenceMemkvIdeal.τ).loc Cert.ReferenceMemkvIdeal.main_arg0) = m ((c.tc : Thread Cert.ReferenceMemkvIdeal.nD Cert.ReferenceMemkvIdeal.τ).loc Cert.ReferenceMemkvIdeal.main_arg0)
      ∧ r.2.mem ((c.tc : Thread Cert.ReferenceMemkvIdeal.nD Cert.ReferenceMemkvIdeal.τ).loc Cert.ReferenceMemkvIdeal.main_arg1) = m ((c.tc : Thread Cert.ReferenceMemkvIdeal.nD Cert.ReferenceMemkvIdeal.τ).loc Cert.ReferenceMemkvIdeal.main_arg1))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2)
      ∧ r.2.mem ((c.tc : Thread Cert.KernelMem.nD Cert.KernelMem.τ).loc Cert.KernelMem.main_arg3) = m ((c.tc : Thread Cert.KernelMem.nD Cert.KernelMem.τ).loc Cert.KernelMem.main_arg3))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ r.2.sem = fun _ => 0)

def quiescent_KernelMemIdeal_pre_mem_finite [hKernelMemIdeal : Cert.KernelMemIdeal.Facts] [hPre_mem_finite : Cert.Pre_mem_finite.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal_mem_finite m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3))
      ∧ r.2.sem = fun _ => 0)

def quiescent_ReferenceMemIdeal_pre_mem_finite [hReferenceMemIdeal : Cert.ReferenceMemIdeal.Facts] [hPre_mem_finite : Cert.Pre_mem_finite.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal_mem_finite m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)) →
    ∃ (v0 : (c : Dev Cert.KernelOutIdeal.nD) → Buf (Elt Ideal) ((c.tc : Thread Cert.KernelOutIdeal.nD Cert.KernelOutIdeal.τ).loc Cert.KernelOutIdeal.main_v4)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v4) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v32) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v47_0)) (v1 : (c : Dev Cert.KernelInIdeal.nD) → Buf (Elt Ideal) ((c.tc : Thread Cert.KernelInIdeal.nD Cert.KernelInIdeal.τ).loc Cert.KernelInIdeal.main_v47_1)) (v2 : (c : Dev Cert.KernelInIdeal.nD) → Buf (Elt Ideal) ((c.tc : Thread Cert.KernelInIdeal.nD Cert.KernelInIdeal.τ).loc Cert.KernelInIdeal.main_v47_2)) (v3 : (c : Dev Cert.KernelInIdeal.nD) → Buf (Elt Ideal) ((c.tc : Thread Cert.KernelInIdeal.nD Cert.KernelInIdeal.τ).loc Cert.KernelInIdeal.main_v47_3)) (v4 : (c : Dev Cert.KernelInIdeal.nD) → Buf (Elt Ideal) ((c.tc : Thread Cert.KernelInIdeal.nD Cert.KernelInIdeal.τ).loc Cert.KernelInIdeal.main_v47_4)) (v5 : (c : Dev Cert.KernelInIdeal.nD) → Buf (Elt Ideal) ((c.tc : Thread Cert.KernelInIdeal.nD Cert.KernelInIdeal.τ).loc Cert.KernelInIdeal.main_v47_5)) (v6 : (c : Dev Cert.KernelInIdeal.nD) → Buf (Elt Ideal) ((c.tc : Thread Cert.KernelInIdeal.nD Cert.KernelInIdeal.τ).loc Cert.KernelInIdeal.main_v47_6)) (v7 : (c : Dev Cert.KernelInIdeal.nD) → Buf (Elt Ideal) ((c.tc : Thread Cert.KernelInIdeal.nD Cert.KernelInIdeal.τ).loc Cert.KernelInIdeal.main_v47_7)) (v8 : (c : Dev Cert.KernelInIdeal.nD) → Buf (Elt Ideal) ((c.tc : Thread Cert.KernelInIdeal.nD Cert.KernelInIdeal.τ).loc Cert.KernelInIdeal.main_v47_8)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v47_0) = v0 c
          ∧ r.2.mem ((c.tc : Thread Cert.KernelInIdeal.nD Cert.KernelInIdeal.τ).loc Cert.KernelInIdeal.main_v47_1) = v1 c
          ∧ r.2.mem ((c.tc : Thread Cert.KernelInIdeal.nD Cert.KernelInIdeal.τ).loc Cert.KernelInIdeal.main_v47_2) = v2 c
          ∧ r.2.mem ((c.tc : Thread Cert.KernelInIdeal.nD Cert.KernelInIdeal.τ).loc Cert.KernelInIdeal.main_v47_3) = v3 c
          ∧ r.2.mem ((c.tc : Thread Cert.KernelInIdeal.nD Cert.KernelInIdeal.τ).loc Cert.KernelInIdeal.main_v47_4) = v4 c
          ∧ r.2.mem ((c.tc : Thread Cert.KernelInIdeal.nD Cert.KernelInIdeal.τ).loc Cert.KernelInIdeal.main_v47_5) = v5 c
          ∧ r.2.mem ((c.tc : Thread Cert.KernelInIdeal.nD Cert.KernelInIdeal.τ).loc Cert.KernelInIdeal.main_v47_6) = v6 c
          ∧ r.2.mem ((c.tc : Thread Cert.KernelInIdeal.nD Cert.KernelInIdeal.τ).loc Cert.KernelInIdeal.main_v47_7) = v7 c
          ∧ r.2.mem ((c.tc : Thread Cert.KernelInIdeal.nD Cert.KernelInIdeal.τ).loc Cert.KernelInIdeal.main_v47_8) = v8 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v46) = v0 c
          ∧ r.2.mem ((c.tc : Thread Cert.ReferenceInIdeal.nD Cert.ReferenceInIdeal.τ).loc Cert.ReferenceInIdeal.main_v48) = v1 c
          ∧ r.2.mem ((c.tc : Thread Cert.ReferenceInIdeal.nD Cert.ReferenceInIdeal.τ).loc Cert.ReferenceInIdeal.main_v50) = v2 c
          ∧ r.2.mem ((c.tc : Thread Cert.ReferenceInIdeal.nD Cert.ReferenceInIdeal.τ).loc Cert.ReferenceInIdeal.main_v56) = v3 c
          ∧ r.2.mem ((c.tc : Thread Cert.ReferenceInIdeal.nD Cert.ReferenceInIdeal.τ).loc Cert.ReferenceInIdeal.main_v15) = v4 c
          ∧ r.2.mem ((c.tc : Thread Cert.ReferenceInIdeal.nD Cert.ReferenceInIdeal.τ).loc Cert.ReferenceInIdeal.main_v58) = v5 c
          ∧ r.2.mem ((c.tc : Thread Cert.ReferenceInIdeal.nD Cert.ReferenceInIdeal.τ).loc Cert.ReferenceInIdeal.main_v60) = v6 c
          ∧ r.2.mem ((c.tc : Thread Cert.ReferenceInIdeal.nD Cert.ReferenceInIdeal.τ).loc Cert.ReferenceInIdeal.main_v66) = v7 c
          ∧ r.2.mem ((c.tc : Thread Cert.ReferenceInIdeal.nD Cert.ReferenceInIdeal.τ).loc Cert.ReferenceInIdeal.main_v65) = v8 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelGmlp_KernelGmlpIdeal : Prop :=
  True

def algebraic_KernelGmlpIdeal_ReferenceGmlpIdeal [hKernelGmlpIdeal : Cert.KernelGmlpIdeal.Facts] [hReferenceGmlpIdeal : Cert.ReferenceGmlpIdeal.Facts] : Prop :=
  ∀ (m : (ℓ : Loc Cert.KernelGmlpIdeal.nD Cert.KernelGmlpIdeal.τ Cert.KernelGmlpIdeal.sig) → Buf (Elt Ideal) ℓ) (g : Dev Cert.KernelGmlpIdeal.nD → PrngReg)
    (m' : (ℓ : Loc Cert.ReferenceGmlpIdeal.nD Cert.ReferenceGmlpIdeal.τ Cert.ReferenceGmlpIdeal.sig) → Buf (Elt Ideal) ℓ) (g' : Dev Cert.ReferenceGmlpIdeal.nD → PrngReg), Pre_KernelGmlpIdeal m →
    (∀ c : Dev Cert.KernelGmlpIdeal.nD,
      m' ((c.tc : Thread Cert.ReferenceGmlpIdeal.nD Cert.ReferenceGmlpIdeal.τ).loc Cert.ReferenceGmlpIdeal.main_arg0) = m ((c.tc : Thread Cert.KernelGmlpIdeal.nD Cert.KernelGmlpIdeal.τ).loc Cert.KernelGmlpIdeal.main_arg0)
      ∧ m' ((c.tc : Thread Cert.ReferenceGmlpIdeal.nD Cert.ReferenceGmlpIdeal.τ).loc Cert.ReferenceGmlpIdeal.main_arg1) = m ((c.tc : Thread Cert.KernelGmlpIdeal.nD Cert.KernelGmlpIdeal.τ).loc Cert.KernelGmlpIdeal.main_arg1)
      ∧ m' ((c.tc : Thread Cert.ReferenceGmlpIdeal.nD Cert.ReferenceGmlpIdeal.τ).loc Cert.ReferenceGmlpIdeal.main_arg2) = m ((c.tc : Thread Cert.KernelGmlpIdeal.nD Cert.KernelGmlpIdeal.τ).loc Cert.KernelGmlpIdeal.main_arg2)
      ∧ m' ((c.tc : Thread Cert.ReferenceGmlpIdeal.nD Cert.ReferenceGmlpIdeal.τ).loc Cert.ReferenceGmlpIdeal.main_arg3) = m ((c.tc : Thread Cert.KernelGmlpIdeal.nD Cert.KernelGmlpIdeal.τ).loc Cert.KernelGmlpIdeal.main_arg3)
      ∧ m' ((c.tc : Thread Cert.ReferenceGmlpIdeal.nD Cert.ReferenceGmlpIdeal.τ).loc Cert.ReferenceGmlpIdeal.main_arg4) = m ((c.tc : Thread Cert.KernelGmlpIdeal.nD Cert.KernelGmlpIdeal.τ).loc Cert.KernelGmlpIdeal.main_arg4)
      ∧ m' ((c.tc : Thread Cert.ReferenceGmlpIdeal.nD Cert.ReferenceGmlpIdeal.τ).loc Cert.ReferenceGmlpIdeal.main_arg5) = m ((c.tc : Thread Cert.KernelGmlpIdeal.nD Cert.KernelGmlpIdeal.τ).loc Cert.KernelGmlpIdeal.main_arg5)
      ∧ m' ((c.tc : Thread Cert.ReferenceGmlpIdeal.nD Cert.ReferenceGmlpIdeal.τ).loc Cert.ReferenceGmlpIdeal.main_arg6) = m ((c.tc : Thread Cert.KernelGmlpIdeal.nD Cert.KernelGmlpIdeal.τ).loc Cert.KernelGmlpIdeal.main_arg6)) →
    ∃ (v0 : (c : Dev Cert.KernelGmlpIdeal.nD) → Buf (Elt Ideal) ((c.tc : Thread Cert.KernelGmlpIdeal.nD Cert.KernelGmlpIdeal.τ).loc Cert.KernelGmlpIdeal.main_v17)),
      θ_run (Cert.KernelGmlpIdeal.defs (F := Ideal)) (onTc (τ := Cert.KernelGmlpIdeal.τ) (Cert.KernelGmlpIdeal.main (F := Ideal))) ⟨m, fun _ => 0, g⟩ (fun r => ∀ c : Dev Cert.KernelGmlpIdeal.nD,
          r.2.mem ((c.tc : Thread Cert.KernelGmlpIdeal.nD Cert.KernelGmlpIdeal.τ).loc Cert.KernelGmlpIdeal.main_v17) = v0 c
          ∧ r.2.mem ((c.tc : Thread Cert.KernelGmlpIdeal.nD Cert.KernelGmlpIdeal.τ).loc Cert.KernelGmlpIdeal.main_arg0) = m ((c.tc : Thread Cert.KernelGmlpIdeal.nD Cert.KernelGmlpIdeal.τ).loc Cert.KernelGmlpIdeal.main_arg0)
          ∧ r.2.mem ((c.tc : Thread Cert.KernelGmlpIdeal.nD Cert.KernelGmlpIdeal.τ).loc Cert.KernelGmlpIdeal.main_arg1) = m ((c.tc : Thread Cert.KernelGmlpIdeal.nD Cert.KernelGmlpIdeal.τ).loc Cert.KernelGmlpIdeal.main_arg1)
          ∧ r.2.mem ((c.tc : Thread Cert.KernelGmlpIdeal.nD Cert.KernelGmlpIdeal.τ).loc Cert.KernelGmlpIdeal.main_arg2) = m ((c.tc : Thread Cert.KernelGmlpIdeal.nD Cert.KernelGmlpIdeal.τ).loc Cert.KernelGmlpIdeal.main_arg2)
          ∧ r.2.mem ((c.tc : Thread Cert.KernelGmlpIdeal.nD Cert.KernelGmlpIdeal.τ).loc Cert.KernelGmlpIdeal.main_arg3) = m ((c.tc : Thread Cert.KernelGmlpIdeal.nD Cert.KernelGmlpIdeal.τ).loc Cert.KernelGmlpIdeal.main_arg3)
          ∧ r.2.mem ((c.tc : Thread Cert.KernelGmlpIdeal.nD Cert.KernelGmlpIdeal.τ).loc Cert.KernelGmlpIdeal.main_arg4) = m ((c.tc : Thread Cert.KernelGmlpIdeal.nD Cert.KernelGmlpIdeal.τ).loc Cert.KernelGmlpIdeal.main_arg4)
          ∧ r.2.mem ((c.tc : Thread Cert.KernelGmlpIdeal.nD Cert.KernelGmlpIdeal.τ).loc Cert.KernelGmlpIdeal.main_arg5) = m ((c.tc : Thread Cert.KernelGmlpIdeal.nD Cert.KernelGmlpIdeal.τ).loc Cert.KernelGmlpIdeal.main_arg5)
          ∧ r.2.mem ((c.tc : Thread Cert.KernelGmlpIdeal.nD Cert.KernelGmlpIdeal.τ).loc Cert.KernelGmlpIdeal.main_arg6) = m ((c.tc : Thread Cert.KernelGmlpIdeal.nD Cert.KernelGmlpIdeal.τ).loc Cert.KernelGmlpIdeal.main_arg6))
      ∧ θ_run (Cert.ReferenceGmlpIdeal.defs (F := Ideal)) (onTc (τ := Cert.ReferenceGmlpIdeal.τ) (Cert.ReferenceGmlpIdeal.main (F := Ideal))) ⟨m', fun _ => 0, g'⟩ (fun r => ∀ c : Dev Cert.ReferenceGmlpIdeal.nD,
          r.2.mem ((c.tc : Thread Cert.ReferenceGmlpIdeal.nD Cert.ReferenceGmlpIdeal.τ).loc Cert.ReferenceGmlpIdeal.main_v45) = v0 c
          ∧ r.2.mem ((c.tc : Thread Cert.ReferenceGmlpIdeal.nD Cert.ReferenceGmlpIdeal.τ).loc Cert.ReferenceGmlpIdeal.main_arg0) = m' ((c.tc : Thread Cert.ReferenceGmlpIdeal.nD Cert.ReferenceGmlpIdeal.τ).loc Cert.ReferenceGmlpIdeal.main_arg0)
          ∧ r.2.mem ((c.tc : Thread Cert.ReferenceGmlpIdeal.nD Cert.ReferenceGmlpIdeal.τ).loc Cert.ReferenceGmlpIdeal.main_arg1) = m' ((c.tc : Thread Cert.ReferenceGmlpIdeal.nD Cert.ReferenceGmlpIdeal.τ).loc Cert.ReferenceGmlpIdeal.main_arg1)
          ∧ r.2.mem ((c.tc : Thread Cert.ReferenceGmlpIdeal.nD Cert.ReferenceGmlpIdeal.τ).loc Cert.ReferenceGmlpIdeal.main_arg2) = m' ((c.tc : Thread Cert.ReferenceGmlpIdeal.nD Cert.ReferenceGmlpIdeal.τ).loc Cert.ReferenceGmlpIdeal.main_arg2)
          ∧ r.2.mem ((c.tc : Thread Cert.ReferenceGmlpIdeal.nD Cert.ReferenceGmlpIdeal.τ).loc Cert.ReferenceGmlpIdeal.main_arg3) = m' ((c.tc : Thread Cert.ReferenceGmlpIdeal.nD Cert.ReferenceGmlpIdeal.τ).loc Cert.ReferenceGmlpIdeal.main_arg3)
          ∧ r.2.mem ((c.tc : Thread Cert.ReferenceGmlpIdeal.nD Cert.ReferenceGmlpIdeal.τ).loc Cert.ReferenceGmlpIdeal.main_arg4) = m' ((c.tc : Thread Cert.ReferenceGmlpIdeal.nD Cert.ReferenceGmlpIdeal.τ).loc Cert.ReferenceGmlpIdeal.main_arg4)
          ∧ r.2.mem ((c.tc : Thread Cert.ReferenceGmlpIdeal.nD Cert.ReferenceGmlpIdeal.τ).loc Cert.ReferenceGmlpIdeal.main_arg5) = m' ((c.tc : Thread Cert.ReferenceGmlpIdeal.nD Cert.ReferenceGmlpIdeal.τ).loc Cert.ReferenceGmlpIdeal.main_arg5)
          ∧ r.2.mem ((c.tc : Thread Cert.ReferenceGmlpIdeal.nD Cert.ReferenceGmlpIdeal.τ).loc Cert.ReferenceGmlpIdeal.main_arg6) = m' ((c.tc : Thread Cert.ReferenceGmlpIdeal.nD Cert.ReferenceGmlpIdeal.τ).loc Cert.ReferenceGmlpIdeal.main_arg6))

def preserves_KernelMemkv_KernelMemkvIdeal : Prop :=
  True

def algebraic_KernelMemkvIdeal_ReferenceMemkvIdeal [hKernelMemkvIdeal : Cert.KernelMemkvIdeal.Facts] [hReferenceMemkvIdeal : Cert.ReferenceMemkvIdeal.Facts] : Prop :=
  ∀ (m : (ℓ : Loc Cert.KernelMemkvIdeal.nD Cert.KernelMemkvIdeal.τ Cert.KernelMemkvIdeal.sig) → Buf (Elt Ideal) ℓ) (g : Dev Cert.KernelMemkvIdeal.nD → PrngReg)
    (m' : (ℓ : Loc Cert.ReferenceMemkvIdeal.nD Cert.ReferenceMemkvIdeal.τ Cert.ReferenceMemkvIdeal.sig) → Buf (Elt Ideal) ℓ) (g' : Dev Cert.ReferenceMemkvIdeal.nD → PrngReg), Pre_KernelMemkvIdeal m →
    (∀ c : Dev Cert.KernelMemkvIdeal.nD,
      m' ((c.tc : Thread Cert.ReferenceMemkvIdeal.nD Cert.ReferenceMemkvIdeal.τ).loc Cert.ReferenceMemkvIdeal.main_arg0) = m ((c.tc : Thread Cert.KernelMemkvIdeal.nD Cert.KernelMemkvIdeal.τ).loc Cert.KernelMemkvIdeal.main_arg0)
      ∧ m' ((c.tc : Thread Cert.ReferenceMemkvIdeal.nD Cert.ReferenceMemkvIdeal.τ).loc Cert.ReferenceMemkvIdeal.main_arg1) = m ((c.tc : Thread Cert.KernelMemkvIdeal.nD Cert.KernelMemkvIdeal.τ).loc Cert.KernelMemkvIdeal.main_arg1)) →
    ∃ (v0 : (c : Dev Cert.KernelMemkvIdeal.nD) → Buf (Elt Ideal) ((c.tc : Thread Cert.KernelMemkvIdeal.nD Cert.KernelMemkvIdeal.τ).loc Cert.KernelMemkvIdeal.main_v1_0)) (v1 : (c : Dev Cert.KernelMemkvIdeal.nD) → Buf (Elt Ideal) ((c.tc : Thread Cert.KernelMemkvIdeal.nD Cert.KernelMemkvIdeal.τ).loc Cert.KernelMemkvIdeal.main_v1_1)),
      θ_run (Cert.KernelMemkvIdeal.defs (F := Ideal)) (onTc (τ := Cert.KernelMemkvIdeal.τ) (Cert.KernelMemkvIdeal.main (F := Ideal))) ⟨m, fun _ => 0, g⟩ (fun r => ∀ c : Dev Cert.KernelMemkvIdeal.nD,
          r.2.mem ((c.tc : Thread Cert.KernelMemkvIdeal.nD Cert.KernelMemkvIdeal.τ).loc Cert.KernelMemkvIdeal.main_v1_0) = v0 c
          ∧ r.2.mem ((c.tc : Thread Cert.KernelMemkvIdeal.nD Cert.KernelMemkvIdeal.τ).loc Cert.KernelMemkvIdeal.main_v1_1) = v1 c
          ∧ r.2.mem ((c.tc : Thread Cert.KernelMemkvIdeal.nD Cert.KernelMemkvIdeal.τ).loc Cert.KernelMemkvIdeal.main_arg0) = m ((c.tc : Thread Cert.KernelMemkvIdeal.nD Cert.KernelMemkvIdeal.τ).loc Cert.KernelMemkvIdeal.main_arg0)
          ∧ r.2.mem ((c.tc : Thread Cert.KernelMemkvIdeal.nD Cert.KernelMemkvIdeal.τ).loc Cert.KernelMemkvIdeal.main_arg1) = m ((c.tc : Thread Cert.KernelMemkvIdeal.nD Cert.KernelMemkvIdeal.τ).loc Cert.KernelMemkvIdeal.main_arg1))
      ∧ θ_run (Cert.ReferenceMemkvIdeal.defs (F := Ideal)) (onTc (τ := Cert.ReferenceMemkvIdeal.τ) (Cert.ReferenceMemkvIdeal.main (F := Ideal))) ⟨m', fun _ => 0, g'⟩ (fun r => ∀ c : Dev Cert.ReferenceMemkvIdeal.nD,
          r.2.mem ((c.tc : Thread Cert.ReferenceMemkvIdeal.nD Cert.ReferenceMemkvIdeal.τ).loc Cert.ReferenceMemkvIdeal.main_v3) = v0 c
          ∧ r.2.mem ((c.tc : Thread Cert.ReferenceMemkvIdeal.nD Cert.ReferenceMemkvIdeal.τ).loc Cert.ReferenceMemkvIdeal.main_v4) = v1 c
          ∧ r.2.mem ((c.tc : Thread Cert.ReferenceMemkvIdeal.nD Cert.ReferenceMemkvIdeal.τ).loc Cert.ReferenceMemkvIdeal.main_arg0) = m' ((c.tc : Thread Cert.ReferenceMemkvIdeal.nD Cert.ReferenceMemkvIdeal.τ).loc Cert.ReferenceMemkvIdeal.main_arg0)
          ∧ r.2.mem ((c.tc : Thread Cert.ReferenceMemkvIdeal.nD Cert.ReferenceMemkvIdeal.τ).loc Cert.ReferenceMemkvIdeal.main_arg1) = m' ((c.tc : Thread Cert.ReferenceMemkvIdeal.nD Cert.ReferenceMemkvIdeal.τ).loc Cert.ReferenceMemkvIdeal.main_arg1))

def preserves_KernelMem_KernelMemIdeal : Prop :=
  True

def algebraic_KernelMemIdeal_ReferenceMemIdeal_pre_mem_finite [hKernelMemIdeal : Cert.KernelMemIdeal.Facts] [hReferenceMemIdeal : Cert.ReferenceMemIdeal.Facts] [hPre_mem_finite : Cert.Pre_mem_finite.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal_mem_finite m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)
      ∧ m' ((c.tc : Thread Cert.ReferenceMemIdeal.nD Cert.ReferenceMemIdeal.τ).loc Cert.ReferenceMemIdeal.main_arg3) = m ((c.tc : Thread Cert.KernelMemIdeal.nD Cert.KernelMemIdeal.τ).loc Cert.KernelMemIdeal.main_arg3)) →
    ∃ (v0 : (c : Dev Cert.KernelMemIdeal.nD) → Buf (Elt Ideal) ((c.tc : Thread Cert.KernelMemIdeal.nD Cert.KernelMemIdeal.τ).loc Cert.KernelMemIdeal.main_v9)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v9) = v0 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
          ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v23) = v0 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2)
          ∧ r.2.mem ((c.tc : Thread Cert.ReferenceMemIdeal.nD Cert.ReferenceMemIdeal.τ).loc Cert.ReferenceMemIdeal.main_arg3) = m' ((c.tc : Thread Cert.ReferenceMemIdeal.nD Cert.ReferenceMemIdeal.τ).loc Cert.ReferenceMemIdeal.main_arg3))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelGmlp : Cert.KernelGmlp.Facts) (hKernelGmlpIdeal : Cert.KernelGmlpIdeal.Facts) (hReferenceGmlpIdeal : Cert.ReferenceGmlpIdeal.Facts) (hKernelMemkv : Cert.KernelMemkv.Facts) (hKernelMemkvIdeal : Cert.KernelMemkvIdeal.Facts) (hReferenceMemkvIdeal : Cert.ReferenceMemkvIdeal.Facts) (hKernelMem : Cert.KernelMem.Facts) (hKernelMemIdeal : Cert.KernelMemIdeal.Facts) (hReferenceMemIdeal : Cert.ReferenceMemIdeal.Facts) (hPre_finite : Cert.Pre_finite.Facts) (hPre_mem_finite : Cert.Pre_mem_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelGmlp (hKernelGmlp := hKernelGmlp)
    ∧ quiescent_KernelGmlpIdeal (hKernelGmlpIdeal := hKernelGmlpIdeal)
    ∧ quiescent_ReferenceGmlpIdeal (hReferenceGmlpIdeal := hReferenceGmlpIdeal)
    ∧ quiescent_KernelMemkv (hKernelMemkv := hKernelMemkv)
    ∧ quiescent_KernelMemkvIdeal (hKernelMemkvIdeal := hKernelMemkvIdeal)
    ∧ quiescent_ReferenceMemkvIdeal (hReferenceMemkvIdeal := hReferenceMemkvIdeal)
    ∧ quiescent_KernelMem (hKernelMem := hKernelMem)
    ∧ quiescent_KernelMemIdeal (hKernelMemIdeal := hKernelMemIdeal)
    ∧ quiescent_KernelMemIdeal_pre_mem_finite (hKernelMemIdeal := hKernelMemIdeal) (hPre_mem_finite := hPre_mem_finite)
    ∧ quiescent_ReferenceMemIdeal (hReferenceMemIdeal := hReferenceMemIdeal)
    ∧ quiescent_ReferenceMemIdeal_pre_mem_finite (hReferenceMemIdeal := hReferenceMemIdeal) (hPre_mem_finite := hPre_mem_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelGmlp_KernelGmlpIdeal
    ∧ algebraic_KernelGmlpIdeal_ReferenceGmlpIdeal (hKernelGmlpIdeal := hKernelGmlpIdeal) (hReferenceGmlpIdeal := hReferenceGmlpIdeal)
    ∧ preserves_KernelMemkv_KernelMemkvIdeal
    ∧ algebraic_KernelMemkvIdeal_ReferenceMemkvIdeal (hKernelMemkvIdeal := hKernelMemkvIdeal) (hReferenceMemkvIdeal := hReferenceMemkvIdeal)
    ∧ preserves_KernelMem_KernelMemIdeal
    ∧ algebraic_KernelMemIdeal_ReferenceMemIdeal_pre_mem_finite (hKernelMemIdeal := hKernelMemIdeal) (hReferenceMemIdeal := hReferenceMemIdeal) (hPre_mem_finite := hPre_mem_finite)
-- ==== Pre_finite.lean ====
abbrev S8x4096x256 : Shape := ⟨3, ![8, 4096, 256]⟩
abbrev S32768x1024 : Shape := ⟨2, ![32768, 1024]⟩
abbrev S4x257 : Shape := ⟨2, ![4, 257]⟩
abbrev S_ : Shape := ⟨0, ![]⟩

class Facts : Prop where
  bcast_S_S8x4096x256 : S_.BroadcastsInDim S8x4096x256 (![] : Fin 0 → Fin S8x4096x256.rank)
  bcast_S_S4x257 : S_.BroadcastsInDim S4x257 (![] : Fin 0 → Fin S4x257.rank)

variable [Facts]

def fn {F : FTy → Type} [FloatOps F] (main_arg0 : FVec F S8x4096x256 .f32) (main_arg1 : FVec F S8x4096x256 .f32) (main_arg2 : FVec F S8x4096x256 .f32) (main_arg3 : FVec F S32768x1024 .f32) (main_arg4 : FVec F S4x257 .f32) : IVec S8x4096x256 1 × IVec S8x4096x256 1 × IVec S4x257 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_v3 : FVec F S8x4096x256 .f32 := Host.absf main_arg1
  let main_cst_0 : FVec F S_ .f32 := constant S_ .f32 0x7F800000#32
  let main_v4 : FVec F S8x4096x256 .f32 := broadcastInDim S8x4096x256 ![] bcast_S_S8x4096x256 main_cst_0
  let main_v5 : IVec S8x4096x256 1 := cmpf .olt main_v3 main_v4
  let main_v6 : FVec F S4x257 .f32 := Host.absf main_arg4
  let main_cst_1 : FVec F S_ .f32 := constant S_ .f32 0x7F800000#32
  let main_v7 : FVec F S4x257 .f32 := broadcastInDim S4x257 ![] bcast_S_S4x257 main_cst_1
  let main_v8 : IVec S4x257 1 := cmpf .olt main_v6 main_v7
  (main_v2, main_v5, main_v8)
-- ==== Pre_mem_finite.lean ====
abbrev S8x4096x256 : Shape := ⟨3, ![8, 4096, 256]⟩
abbrev S8x256x256 : Shape := ⟨3, ![8, 256, 256]⟩
abbrev S32768x1024 : Shape := ⟨2, ![32768, 1024]⟩
abbrev S_ : Shape := ⟨0, ![]⟩

class Facts : Prop where
  bcast_S_S8x4096x256 : S_.BroadcastsInDim S8x4096x256 (![] : Fin 0 → Fin S8x4096x256.rank)
  bcast_S_S8x256x256 : S_.BroadcastsInDim S8x256x256 (![] : Fin 0 → Fin S8x256x256.rank)

variable [Facts]

def fn {F : FTy → Type} [FloatOps F] (main_arg0 : FVec F S8x4096x256 .f32) (main_arg1 : FVec F S8x256x256 .f32) (main_arg2 : FVec F S8x256x256 .f32) (main_arg3 : FVec F S32768x1024 .f32) : IVec S8x4096x256 1 × IVec S8x256x256 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_v3 : FVec F S8x256x256 .f32 := Host.absf main_arg1
  let main_cst_0 : FVec F S_ .f32 := constant S_ .f32 0x7F800000#32
  let main_v4 : FVec F S8x256x256 .f32 := broadcastInDim S8x256x256 ![] bcast_S_S8x256x256 main_cst_0
  let main_v5 : IVec S8x256x256 1 := cmpf .olt main_v3 main_v4
  (main_v2, main_v5)
-- ==== Kernel.lean ====
abbrev S8x4096x256 : Shape := ⟨3, ![8, 4096, 256]⟩
abbrev S32768x1024 : Shape := ⟨2, ![32768, 1024]⟩
abbrev S4x257 : Shape := ⟨2, ![4, 257]⟩
abbrev S1023 : Shape := ⟨1, ![1023]⟩
abbrev S_ : Shape := ⟨0, ![]⟩
abbrev S8x4096x768 : Shape := ⟨3, ![8, 4096, 768]⟩
abbrev S8x16x256x768 : Shape := ⟨4, ![8, 16, 256, 768]⟩
abbrev S1023x1 : Shape := ⟨2, ![1023, 1]⟩
abbrev S4x1023 : Shape := ⟨2, ![4, 1023]⟩
abbrev S4x1 : Shape := ⟨2, ![4, 1]⟩
abbrev S4x1024 : Shape := ⟨2, ![4, 1024]⟩
abbrev S1x4x1x1024 : Shape := ⟨4, ![1, 4, 1, 1024]⟩
abbrev S1x4x256x1024 : Shape := ⟨4, ![1, 4, 256, 1024]⟩
abbrev S4x262144 : Shape := ⟨2, ![4, 262144]⟩
abbrev S4x261888 : Shape := ⟨2, ![4, 261888]⟩
abbrev S4x256x1023 : Shape := ⟨3, ![4, 256, 1023]⟩
abbrev S4x256x768 : Shape := ⟨3, ![4, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S4x256x256 : Shape := ⟨3, ![4, 256, 256]⟩
abbrev S4x1x256x256 : Shape := ⟨4, ![4, 1, 256, 256]⟩
abbrev S4x4x256x256 : Shape := ⟨4, ![4, 4, 256, 256]⟩
abbrev S32768x256 : Shape := ⟨2, ![32768, 256]⟩
abbrev S1x16x256x768 : Shape := ⟨4, ![1, 16, 256, 768]⟩
abbrev S256x256 : Shape := ⟨2, ![256, 256]⟩
abbrev S1x1x256x256 : Shape := ⟨4, ![1, 1, 256, 256]⟩

abbrev nBuf : Space → Nat
  | .hbm => 110
  | .vmem => 7
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x256, .f32⟩
  | .hbm, ⟨3, _⟩ => ⟨S32768x1024, .f32⟩
  | .hbm, ⟨4, _⟩ => ⟨S4x257, .f32⟩
  | .hbm, ⟨5, _⟩ => ⟨S1023, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4096x256, .f32⟩
  | .hbm, ⟨13, _⟩ => ⟨S8x4096x256, .f32⟩
  | .hbm, ⟨14, _⟩ => ⟨S8x4096x768, .f32⟩
  | .hbm, ⟨15, _⟩ => ⟨S8x4096x768, .bf16⟩
  | .hbm, ⟨16, _⟩ => ⟨S8x16x256x768, .bf16⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i32⟩
  | .hbm, ⟨22, _⟩ => ⟨S1023, .i32⟩
  | .hbm, ⟨23, _⟩ => ⟨S1023, .i1⟩
  | .hbm, ⟨24, _⟩ => ⟨S_, .i32⟩
  | .hbm, ⟨25, _⟩ => ⟨S1023, .i32⟩
  | .hbm, ⟨26, _⟩ => ⟨S1023, .i32⟩
  | .hbm, ⟨27, _⟩ => ⟨S1023, .i32⟩
  | .hbm, ⟨28, _⟩ => ⟨S1023x1, .i32⟩
  | .hbm, ⟨29, _⟩ => ⟨S4x1023, .f32⟩
  | .hbm, ⟨30, _⟩ => ⟨S4x1023, .f32⟩
  | .hbm, ⟨31, _⟩ => ⟨S4x1023, .f32⟩
  | .hbm, ⟨32, _⟩ => ⟨S_, .f32⟩
  | .hbm, ⟨33, _⟩ => ⟨S4x1, .f32⟩
  | .hbm, ⟨34, _⟩ => ⟨S4x1024, .f32⟩
  | .hbm, ⟨35, _⟩ => ⟨S1x4x1x1024, .f32⟩
  | .hbm, ⟨36, _⟩ => ⟨S1x4x256x1024, .f32⟩
  | .hbm, ⟨37, _⟩ => ⟨S4x262144, .f32⟩
  | .hbm, ⟨38, _⟩ => ⟨S4x261888, .f32⟩
  | .hbm, ⟨39, _⟩ => ⟨S4x256x1023, .f32⟩
  | .hbm, ⟨40, _⟩ => ⟨S4x256x768, .f32⟩
  | .hbm, ⟨41, _⟩ => ⟨S256, .i32⟩
  | .hbm, ⟨42, _⟩ => ⟨S256x1, .i32⟩
  | .hbm, ⟨43, _⟩ => ⟨S768, .i32⟩
  | .hbm, ⟨44, _⟩ => ⟨S1x768, .i32⟩
  | .hbm, ⟨45, _⟩ => ⟨S_, .i32⟩
  | .hbm, ⟨46, _⟩ => ⟨S_, .i32⟩
  | .hbm, ⟨47, _⟩ => ⟨S256x1, .i32⟩
  | .hbm, ⟨48, _⟩ => ⟨S256x1, .i32⟩
  | .hbm, ⟨49, _⟩ => ⟨S256x1, .i32⟩
  | .hbm, ⟨50, _⟩ => ⟨S_, .i32⟩
  | .hbm, ⟨51, _⟩ => ⟨S256x1, .i32⟩
  | .hbm, ⟨52, _⟩ => ⟨S256x1, .i1⟩
  | .hbm, ⟨53, _⟩ => ⟨S256x1, .i32⟩
  | .hbm, ⟨54, _⟩ => ⟨S256x1, .i32⟩
  | .hbm, ⟨55, _⟩ => ⟨S_, .i32⟩
  | .hbm, ⟨56, _⟩ => ⟨S256x1, .i32⟩
  | .hbm, ⟨57, _⟩ => ⟨S256x1, .i1⟩
  | .hbm, ⟨58, _⟩ => ⟨S256x1, .i1⟩
  | .hbm, ⟨59, _⟩ => ⟨S_, .i32⟩
  | .hbm, ⟨60, _⟩ => ⟨S256x1, .i32⟩
  | .hbm, ⟨61, _⟩ => ⟨S256x1, .i32⟩
  | .hbm, ⟨62, _⟩ => ⟨S256x1, .i32⟩
  | .hbm, ⟨63, _⟩ => ⟨S_, .i32⟩
  | .hbm, ⟨64, _⟩ => ⟨S_, .i32⟩
  | .hbm, ⟨65, _⟩ => ⟨S1x768, .i32⟩
  | .hbm, ⟨66, _⟩ => ⟨S1x768, .i32⟩
  | .hbm, ⟨67, _⟩ => ⟨S1x768, .i32⟩
  | .hbm, ⟨68, _⟩ => ⟨S_, .i32⟩
  | .hbm, ⟨69, _⟩ => ⟨S1x768, .i32⟩
  | .hbm, ⟨70, _⟩ => ⟨S1x768, .i1⟩
  | .hbm, ⟨71, _⟩ => ⟨S1x768, .i32⟩
  | .hbm, ⟨72, _⟩ => ⟨S1x768, .i32⟩
  | .hbm, ⟨73, _⟩ => ⟨S_, .i32⟩
  | .hbm, ⟨74, _⟩ => ⟨S1x768, .i32⟩
  | .hbm, ⟨75, _⟩ => ⟨S1x768, .i1⟩
  | .hbm, ⟨76, _⟩ => ⟨S1x768, .i1⟩
  | .hbm, ⟨77, _⟩ => ⟨S_, .i32⟩
  | .hbm, ⟨78, _⟩ => ⟨S1x768, .i32⟩
  | .hbm, ⟨79, _⟩ => ⟨S1x768, .i32⟩
  | .hbm, ⟨80, _⟩ => ⟨S1x768, .i32⟩
  | .hbm, ⟨81, _⟩ => ⟨S256x768, .i32⟩
  | .hbm, ⟨82, _⟩ => ⟨S256x768, .i32⟩
  | .hbm, ⟨83, _⟩ => ⟨S256x768, .i32⟩
  | .hbm, ⟨84, _⟩ => ⟨S_, .i32⟩
  | .hbm, ⟨85, _⟩ => ⟨S256x768, .i32⟩
  | .hbm, ⟨86, _⟩ => ⟨S256x768, .i32⟩
  | .hbm, ⟨87, _⟩ => ⟨S_, .i32⟩
  | .hbm, ⟨88, _⟩ => ⟨S256x768, .i32⟩
  | .hbm, ⟨89, _⟩ => ⟨S256x768, .i1⟩
  | .hbm, ⟨90, _⟩ => ⟨S_, .i32⟩
  | .hbm, ⟨91, _⟩ => ⟨S256x768, .i32⟩
  | .hbm, ⟨92, _⟩ => ⟨S256x768, .i1⟩
  | .hbm, ⟨93, _⟩ => ⟨S256x768, .i1⟩
  | .hbm, ⟨94, _⟩ => ⟨S1x256x768, .i1⟩
  | .hbm, ⟨95, _⟩ => ⟨S_, .f32⟩
  | .hbm, ⟨96, _⟩ => ⟨S_, .f32⟩
  | .hbm, ⟨97, _⟩ => ⟨S4x256x768, .i1⟩
  | .hbm, ⟨98, _⟩ => ⟨S4x256x768, .f32⟩
  | .hbm, ⟨99, _⟩ => ⟨S4x256x768, .f32⟩
  | .hbm, ⟨100, _⟩ => ⟨S4x256x256, .f32⟩
  | .hbm, ⟨101, _⟩ => ⟨S4x1x256x256, .f32⟩
  | .hbm, ⟨102, _⟩ => ⟨S4x256x256, .f32⟩
  | .hbm, ⟨103, _⟩ => ⟨S4x1x256x256, .f32⟩
  | .hbm, ⟨104, _⟩ => ⟨S4x256x256, .f32⟩
  | .hbm, ⟨105, _⟩ => ⟨S4x1x256x256, .f32⟩
  | .hbm, ⟨106, _⟩ => ⟨S_, .f32⟩
  | .hbm, ⟨107, _⟩ => ⟨S4x1x256x256, .f32⟩
  | .hbm, ⟨108, _⟩ => ⟨S4x4x256x256, .f32⟩
  | .hbm, ⟨109, _⟩ => ⟨S32768x256, .bf16⟩
  | .local _ .vmem, ⟨0, _⟩ => ⟨S1x16x256x768, .bf16⟩
  | .local _ .vmem, ⟨1, _⟩ => ⟨S1x16x256x768, .bf16⟩
  | .local _ .vmem, ⟨2, _⟩ => ⟨S256x256, .f32⟩
  | .local _ .vmem, ⟨3, _⟩ => ⟨S256x256, .f32⟩
  | .local _ .vmem, ⟨4, _⟩ => ⟨S4x4x256x256, .f32⟩
  | .local _ .vmem, ⟨5, _⟩ => ⟨S256x256, .bf16⟩
  | .local _ .vmem, ⟨6, _⟩ => ⟨S256x256, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v31 : Ref sig .tc := ⟨.hbm, 62, rfl⟩
abbrev main_c_8 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_c : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_0 : Ref sig .tc := ⟨.hbm, 77, rfl⟩
abbrev main_call1_v12 : Ref sig .tc := ⟨.hbm, 78, rfl⟩
abbrev main_call1_v13 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_c_9 : Ref sig .tc := ⟨.hbm, 84, rfl⟩
abbrev main_v36 : Ref sig .tc := ⟨.hbm, 85, rfl⟩
abbrev main_v37 : Ref sig .tc := ⟨.hbm, 86, rfl⟩
abbrev main_c_10 : Ref sig .tc := ⟨.hbm, 87, rfl⟩
abbrev main_v38 : Ref sig .tc := ⟨.hbm, 88, rfl⟩
abbrev main_v39 : Ref sig .tc := ⟨.hbm, 89, rfl⟩
abbrev main_c_11 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst_12 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_13 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_off1 (i : grid0.Coords) : Fin 4 → Nat :=
  let c0 : Index := 0#32
  let arg1 : BitVec 32 := BitVec.ofNat 32 (i 1).val
  let v0 : Index := Scalar.indexCast arg1
  let c0_0 : Index := 0#32
  let c0_1 : Index := 0#32
  ![0, v0.toNat, 0, 0]
def k0_off2 (i : grid0.Coords) (c2_i32 : BitVec 32) : Fin 4 → Nat :=
  let c0_7 : Index := 0#32
  let arg1 : BitVec 32 := BitVec.ofNat 32 (i 1).val
  let v28 : BitVec 32 := Scalar.subi arg1 c2_i32
  let c0_i32_6 : BitVec 32 := 0#32
  let v29 : BitVec 32 := Scalar.maxsi v28 c0_i32_6
  let v30 : Index := Scalar.indexCast v29
  let c0_8 : Index := 0#32
  let c256 : Index := 256#32
  ![0, v30.toNat, 0, 256]
def k0_off3 (i : grid0.Coords) (c2_i32 : BitVec 32) : Fin 4 → Nat :=
  let c0_9 : Index := 0#32
  let arg1 : BitVec 32 := BitVec.ofNat 32 (i 1).val
  let v28 : BitVec 32 := Scalar.subi arg1 c2_i32
  let c0_i32_6 : BitVec 32 := 0#32
  let v29 : BitVec 32 := Scalar.maxsi v28 c0_i32_6
  let v33 : Index := Scalar.indexCast v29
  let c0_10 : Index := 0#32
  let c512 : Index := 512#32
  ![0, v33.toNat, 0, 512]
def k0_off4 (i : grid0.Coords) (c2_i32 : BitVec 32) (c0_i32_12 : BitVec 32) : Fin 4 → Nat :=
  let c0_38 : Index := 0#32
  let arg1 : BitVec 32 := BitVec.ofNat 32 (i 1).val
  let v28 : BitVec 32 := Scalar.subi arg1 c2_i32
  let c0_i32_11 : BitVec 32 := 0#32
  let v36 : BitVec 1 := Scalar.cmpi .sge v28 c0_i32_11
  let c3_i32 : BitVec 32 := 3#32
  let v37 : BitVec 32 := Scalar.select v36 c0_i32_12 c3_i32
  let v64 : Index := Scalar.indexCast v37
  let c0_39 : Index := 0#32
  let c0_40 : Index := 0#32
  ![0, v64.toNat, 0, 0]
def k0_off4_at (r : Fin 3) : BitVec 32 × BitVec 32 :=
  if r.val < 1 then
    (2#32, 0#32)
  else
    if r.val < 2 then
      (1#32, 1#32)
    else
      (0#32, 2#32)
def k0_off5 (i : grid0.Coords) (c2_i32 : BitVec 32) (c0_i32_12 : BitVec 32) : Fin 4 → Nat :=
  let c1 : Index := 1#32
  let arg1 : BitVec 32 := BitVec.ofNat 32 (i 1).val
  let v28 : BitVec 32 := Scalar.subi arg1 c2_i32
  let c0_i32_11 : BitVec 32 := 0#32
  let v36 : BitVec 1 := Scalar.cmpi .sge v28 c0_i32_11
  let c3_i32 : BitVec 32 := 3#32
  let v37 : BitVec 32 := Scalar.select v36 c0_i32_12 c3_i32
  let v127 : Index := Scalar.indexCast v37
  let c0_65 : Index := 0#32
  let c0_66 : Index := 0#32
  ![1, v127.toNat, 0, 0]
def k0_off5_at (r : Fin 3) : BitVec 32 × BitVec 32 :=
  if r.val < 1 then
    (2#32, 0#32)
  else
    if r.val < 2 then
      (1#32, 1#32)
    else
      (0#32, 2#32)
def k0_off6 (i : grid0.Coords) (c2_i32 : BitVec 32) (c0_i32_12 : BitVec 32) : Fin 4 → Nat :=
  let c2 : Index := 2#32
  let arg1 : BitVec 32 := BitVec.ofNat 32 (i 1).val
  let v28 : BitVec 32 := Scalar.subi arg1 c2_i32
  let c0_i32_11 : BitVec 32 := 0#32
  let v36 : BitVec 1 := Scalar.cmpi .sge v28 c0_i32_11
  let c3_i32 : BitVec 32 := 3#32
  let v37 : BitVec 32 := Scalar.select v36 c0_i32_12 c3_i32
  let v190 : Index := Scalar.indexCast v37
  let c0_91 : Index := 0#32
  let c0_92 : Index := 0#32
  ![2, v190.toNat, 0, 0]
def k0_off6_at (r : Fin 3) : BitVec 32 × BitVec 32 :=
  if r.val < 1 then
    (2#32, 0#32)
  else
    if r.val < 2 then
      (1#32, 1#32)
    else
      (0#32, 2#32)
def k0_off7 (i : grid0.Coords) (c2_i32 : BitVec 32) (c0_i32_12 : BitVec 32) : Fin 4 → Nat :=
  let c3 : Index := 3#32
  let arg1 : BitVec 32 := BitVec.ofNat 32 (i 1).val
  let v28 : BitVec 32 := Scalar.subi arg1 c2_i32
  let c0_i32_11 : BitVec 32 := 0#32
  let v36 : BitVec 1 := Scalar.cmpi .sge v28 c0_i32_11
  let c3_i32 : BitVec 32 := 3#32
  let v37 : BitVec 32 := Scalar.select v36 c0_i32_12 c3_i32
  let v253 : Index := Scalar.indexCast v37
  let c0_117 : Index := 0#32
  let c0_118 : Index := 0#32
  ![3, v253.toNat, 0, 0]
def k0_off7_at (r : Fin 3) : BitVec 32 × BitVec 32 :=
  if r.val < 1 then
    (2#32, 0#32)
  else
    if r.val < 2 then
      (1#32, 1#32)
    else
      (0#32, 2#32)
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x16x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4096x256 : Shape := ⟨3, ![8, 4096, 256]⟩
abbrev S32768x1024 : Shape := ⟨2, ![32768, 1024]⟩
abbrev S4x257 : Shape := ⟨2, ![4, 257]⟩
abbrev S8x4096x4x64 : Shape := ⟨4, ![8, 4096, 4, 64]⟩
abbrev S8x64x64x4x64 : Shape := ⟨5, ![8, 64, 64, 4, 64]⟩
abbrev S_ : Shape := ⟨0, ![]⟩
abbrev S8x72x64x4x64 : Shape := ⟨5, ![8, 72, 64, 4, 64]⟩
abbrev S8x64x576x4x64 : Shape := ⟨5, ![8, 64, 576, 4, 64]⟩
abbrev S8x64x4x64x576 : Shape := ⟨5, ![8, 64, 4, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S4x64x576 : Shape := ⟨3, ![4, 64, 576]⟩
abbrev S1x64x1x1x576 : Shape := ⟨5, ![1, 64, 1, 1, 576]⟩
abbrev S1x1x4x64x576 : Shape := ⟨5, ![1, 1, 4, 64, 576]⟩
abbrev S8x64x4x64 : Shape := ⟨4, ![8, 64, 4, 64]⟩
abbrev S8x64x4x64x1 : Shape := ⟨5, ![8, 64, 4, 64, 1]⟩
abbrev S8x64x4x64x64 : Shape := ⟨5, ![8, 64, 4, 64, 64]⟩
abbrev S32768x256 : Shape := ⟨2, ![32768, 256]⟩

abbrev nBuf : Space → Nat
  | .hbm => 131
  | .vmem => 0
  | .smem => 0
  | _ => 0

abbrev hbmTy0_0 (i : Nat) : BufTy := match i % 128 with
  | 0 => ⟨S8x4096x256, .f32⟩
  | 1 => ⟨S8x4096x256, .f32⟩
  | 2 => ⟨S8x4096x256, .f32⟩
  | 3 => ⟨S32768x1024, .f32⟩
  | 4 => ⟨S4x257, .f32⟩
  | 5 => ⟨S8x4096x4x64, .f32⟩
  | 6 => ⟨S8x4096x4x64, .f32⟩
  | 7 => ⟨S8x4096x4x64, .f32⟩
  | 8 => ⟨S8x64x64x4x64, .f32⟩
  | 9 => ⟨S8x64x64x4x64, .f32⟩
  | 10 => ⟨S_, .i32⟩
  | 11 => ⟨S_, .f32⟩
  | 12 => ⟨S8x72x64x4x64, .f32⟩
  | 13 => ⟨S8x64x64x4x64, .f32⟩
  | 14 => ⟨S_, .i32⟩
  | 15 => ⟨S_, .f32⟩
  | 16 => ⟨S8x72x64x4x64, .f32⟩
  | 17 => ⟨S8x64x64x4x64, .f32⟩
  | 18 => ⟨S8x64x64x4x64, .f32⟩
  | 19 => ⟨S8x64x64x4x64, .f32⟩
  | 20 => ⟨S8x64x64x4x64, .f32⟩
  | 21 => ⟨S8x64x64x4x64, .f32⟩
  | 22 => ⟨S8x64x64x4x64, .f32⟩
  | 23 => ⟨S8x64x64x4x64, .f32⟩
  | 24 => ⟨S8x64x64x4x64, .f32⟩
  | 25 => ⟨S8x64x64x4x64, .f32⟩
  | 26 => ⟨S8x64x576x4x64, .f32⟩
  | 27 => ⟨S8x64x64x4x64, .f32⟩
  | 28 => ⟨S8x64x64x4x64, .f32⟩
  | 29 => ⟨S8x64x64x4x64, .f32⟩
  | 30 => ⟨S8x64x64x4x64, .f32⟩
  | 31 => ⟨S8x64x64x4x64, .f32⟩
  | 32 => ⟨S8x64x64x4x64, .f32⟩
  | 33 => ⟨S8x64x64x4x64, .f32⟩
  | 34 => ⟨S8x64x64x4x64, .f32⟩
  | 35 => ⟨S8x64x64x4x64, .f32⟩
  | 36 => ⟨S8x64x576x4x64, .f32⟩
  | 37 => ⟨S8x64x4x64x576, .f32⟩
  | 38 => ⟨S_, .f32⟩
  | 39 => ⟨S8x64x4x64x576, .f32⟩
  | 40 => ⟨S8x64x4x64x576, .f32⟩
  | 41 => ⟨S64, .i32⟩
  | 42 => ⟨S576, .i32⟩
  | 43 => ⟨S64x1, .i32⟩
  | 44 => ⟨S_, .i32⟩
  | 45 => ⟨S64x1, .i32⟩
  | 46 => ⟨S64x1, .i32⟩
  | 47 => ⟨S1x576, .i32⟩
  | 48 => ⟨S64x576, .i32⟩
  | 49 => ⟨S64x576, .i32⟩
  | 50 => ⟨S64x576, .i32⟩
  | 51 => ⟨S_, .i32⟩
  | 52 => ⟨S_, .i32⟩
  | 53 => ⟨S_, .i32⟩
  | 54 => ⟨S64x576, .i32⟩
  | 55 => ⟨S64x576, .i32⟩
  | 56 => ⟨S_, .i32⟩
  | 57 => ⟨S64x576, .i32⟩
  | 58 => ⟨S64x576, .i32⟩
  | 59 => ⟨S_, .i32⟩
  | 60 => ⟨S64x576, .i32⟩
  | 61 => ⟨S64x576, .i32⟩
  | 62 => ⟨S_, .i32⟩
  | 63 => ⟨S64x576, .i32⟩
  | 64 => ⟨S64x576, .i1⟩
  | 65 => ⟨S_, .i32⟩
  | 66 => ⟨S64x576, .i32⟩
  | 67 => ⟨S64x576, .i32⟩
  | 68 => ⟨S64x576, .i32⟩
  | 69 => ⟨S64x576x1, .i32⟩
  | 70 => ⟨S4x64x576, .f32⟩
  | 71 => ⟨S64, .i32⟩
  | 72 => ⟨S64x1, .i32⟩
  | 73 => ⟨S_, .i32⟩
  | 74 => ⟨S64x1, .i32⟩
  | 75 => ⟨S64x1, .i32⟩
  | 76 => ⟨S1x576, .i32⟩
  | 77 => ⟨S_, .i32⟩
  | 78 => ⟨S_, .i32⟩
  | 79 => ⟨S1x576, .i32⟩
  | 80 => ⟨S1x576, .i32⟩
  | 81 => ⟨S1x576, .i32⟩
  | 82 => ⟨S_, .i32⟩
  | 83 => ⟨S1x576, .i32⟩
  | 84 => ⟨S1x576, .i1⟩
  | 85 => ⟨S1x576, .i32⟩
  | 86 => ⟨S1x576, .i32⟩
  | 87 => ⟨S_, .i32⟩
  | 88 => ⟨S1x576, .i32⟩
  | 89 => ⟨S1x576, .i1⟩
  | 90 => ⟨S1x576, .i1⟩
  | 91 => ⟨S_, .i32⟩
  | 92 => ⟨S1x576, .i32⟩
  | 93 => ⟨S1x576, .i32⟩
  | 94 => ⟨S1x576, .i32⟩
  | 95 => ⟨S64x576, .i32⟩
  | 96 => ⟨S64x576, .i32⟩
  | 97 => ⟨S64x576, .i32⟩
  | 98 => ⟨S_, .i32⟩
  | 99 => ⟨S64x576, .i32⟩
  | 100 => ⟨S64x576, .i1⟩
  | 101 => ⟨S1x64x1x1x576, .i1⟩
  | 102 => ⟨S1x1x4x64x576, .f32⟩
  | 103 => ⟨S8x64x4x64x576, .f32⟩
  | 104 => ⟨S8x64x4x64x576, .f32⟩
  | 105 => ⟨S_, .f32⟩
  | 106 => ⟨S_, .f32⟩
  | 107 => ⟨S8x64x4x64x576, .i1⟩
  | 108 => ⟨S8x64x4x64x576, .f32⟩
  | 109 => ⟨S8x64x4x64x576, .f32⟩
  | 110 => ⟨S_, .f32⟩
  | 111 => ⟨S8x64x4x64, .f32⟩
  | 112 => ⟨S_, .f32⟩
  | 113 => ⟨S8x64x4x64, .f32⟩
  | 114 => ⟨S8x64x4x64, .f32⟩
  | 115 => ⟨S8x64x4x64x1, .f32⟩
  | 116 => ⟨S8x64x4x64x576, .f32⟩
  | 117 => ⟨S8x64x4x64x576, .f32⟩
  | 118 => ⟨S8x64x4x64x576, .f32⟩
  | 119 => ⟨S_, .f32⟩
  | 120 => ⟨S8x64x4x64, .f32⟩
  | 121 => ⟨S8x64x4x64x1, .f32⟩
  | 122 => ⟨S8x64x4x64x576, .f32⟩
  | 123 => ⟨S8x64x4x64x576, .f32⟩
  | 124 => ⟨S8x64x4x64x64, .f32⟩
  | 125 => ⟨S8x64x64x4x64, .f32⟩
  | 126 => ⟨S8x4096x256, .f32⟩
  | 127 => ⟨S32768x256, .f32⟩
  | _ => ⟨S8x4096x256, .f32⟩

abbrev hbmTy0_1 (i : Nat) : BufTy := match i % 128 with
  | 0 => ⟨S32768x256, .f32⟩
  | 1 => ⟨S32768x256, .f32⟩
  | 2 => ⟨S32768x256, .bf16⟩
  | _ => ⟨S8x4096x256, .f32⟩

abbrev hbmTy (i : Nat) : BufTy := match i / 128 with
  | 0 => hbmTy0_0 i
  | 1 => hbmTy0_1 i
  | _ => ⟨S8x4096x256, .f32⟩

abbrev bufTy : (tb : Table) → Fin (tcTables nBuf tb) → BufTy
  | .hbm, ⟨i, _⟩ => hbmTy i
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_2 : Ref sig .tc := ⟨.hbm, 51, rfl⟩
abbrev main_c_3 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_8 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_9 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_10 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v65 : Ref sig .tc := ⟨.hbm, 109, rfl⟩
abbrev main_cst_11 : Ref sig .tc := ⟨.hbm, 110, rfl⟩
abbrev main_v66 : Ref sig .tc := ⟨.hbm, 111, rfl⟩
abbrev main_cst_12 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_13 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩

abbrev nD : Nat := 1
abbrev τ : Topo := Topo.v7x

variable {F : FTy → Type} [FloatOps F]
-- ==== KernelOut.lean ====
abbrev S32768x1024 : Shape := ⟨2, ![32768, 1024]⟩
abbrev S32768x256 : Shape := ⟨2, ![32768, 256]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceOutIdeal.lean ====
abbrev S32768x1024 : Shape := ⟨2, ![32768, 1024]⟩
abbrev S32768x256 : Shape := ⟨2, ![32768, 256]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S32768x1024, .bf16⟩
  | .hbm, ⟨10, _⟩ => ⟨S32768x1024, .f32⟩
  | .hbm, ⟨11, _⟩ => ⟨S32768x1024, .f32⟩
  | .hbm, ⟨12, _⟩ => ⟨S1x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== KernelIn.lean ====
abbrev S32768x1024 : Shape := ⟨2, ![32768, 1024]⟩
abbrev S1024x3912 : Shape := ⟨2, ![1024, 3912]⟩
abbrev S3912 : Shape := ⟨1, ![3912]⟩
abbrev S1024x64 : Shape := ⟨2, ![1024, 64]⟩
abbrev S1024x256 : Shape := ⟨2, ![1024, 256]⟩
abbrev S1024x512 : Shape := ⟨2, ![1024, 512]⟩
abbrev S_ : Shape := ⟨0, ![]⟩
abbrev S1024x8 : Shape := ⟨2, ![1024, 8]⟩
abbrev S1024x120 : Shape := ⟨2, ![1024, 120]⟩
abbrev S1024x3072 : Shape := ⟨2, ![1024, 3072]⟩
abbrev S1024x896 : Shape := ⟨2, ![1024, 896]⟩
abbrev S1x3912 : Shape := ⟨2, ![1, 3912]⟩
abbrev S1x64 : Shape := ⟨2, ![1, 64]⟩
abbrev S1x256 : Shape := ⟨2, ![1, 256]⟩
abbrev S1x512 : Shape := ⟨2, ![1, 512]⟩
abbrev S1x8 : Shape := ⟨2, ![1, 8]⟩
abbrev S1x120 : Shape := ⟨2, ![1, 120]⟩
abbrev S1x3072 : Shape := ⟨2, ![1, 3072]⟩
abbrev S1x896 : Shape := ⟨2, ![1, 896]⟩
abbrev S256x1024 : Shape := ⟨2, ![256, 1024]⟩
abbrev S256x1 : Shape := ⟨2, ![256, 1]⟩
abbrev S32768x512 : Shape := ⟨2, ![32768, 512]⟩
abbrev S32768x768 : Shape := ⟨2, ![32768, 768]⟩
abbrev S8x16x320x256 : Shape := ⟨4, ![8, 16, 320, 256]⟩
abbrev S32768x256 : Shape := ⟨2, ![32768, 256]⟩
abbrev S32768x128 : Shape := ⟨2, ![32768, 128]⟩
abbrev S512x1024 : Shape := ⟨2, ![512, 1024]⟩
abbrev S512x512 : Shape := ⟨2, ![512, 512]⟩
abbrev S512x768 : Shape := ⟨2, ![512, 768]⟩
abbrev S1x2x320x256 : Shape := ⟨4, ![1, 2, 320, 256]⟩
abbrev S512x256 : Shape := ⟨2, ![512, 256]⟩
abbrev S512x128 : Shape := ⟨2, ![512, 128]⟩
abbrev S1024x768 : Shape := ⟨2, ![1024, 768]⟩
abbrev S1x768 : Shape := ⟨2, ![1, 768]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S256x256 : Shape := ⟨2, ![256, 256]⟩
abbrev S64x256 : Shape := ⟨2, ![64, 256]⟩
abbrev S1x1x64x256 : Shape := ⟨4, ![1, 1, 64, 256]⟩
abbrev S16x256 : Shape := ⟨2, ![16, 256]⟩
abbrev S1x1x16x256 : Shape := ⟨4, ![1, 1, 16, 256]⟩

abbrev nBuf : Space → Nat
  | .hbm => 65
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S1024x3912, .f32⟩
  | .hbm, ⟨2, _⟩ => ⟨S3912, .f32⟩
  | .hbm, ⟨3, _⟩ => ⟨S1024x64, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S_, .f32⟩
  | .hbm, ⟨18, _⟩ => ⟨S1024x64, .f32⟩
  | .hbm, ⟨19, _⟩ => ⟨S_, .f32⟩
  | .hbm, ⟨20, _⟩ => ⟨S1024x64, .f32⟩
  | .hbm, ⟨21, _⟩ => ⟨S1024x8, .f32⟩
  | .hbm, ⟨22, _⟩ => ⟨S_, .f32⟩
  | .hbm, ⟨23, _⟩ => ⟨S1024x120, .f32⟩
  | .hbm, ⟨24, _⟩ => ⟨S1024x3072, .f32⟩
  | .hbm, ⟨25, _⟩ => ⟨S1024x896, .f32⟩
  | .hbm, ⟨26, _⟩ => ⟨S1024x256, .f32⟩
  | .hbm, ⟨27, _⟩ => ⟨S1x3912, .f32⟩
  | .hbm, ⟨28, _⟩ => ⟨S1x64, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x512, .f32⟩
  | .hbm, ⟨42, _⟩ => ⟨S_, .f32⟩
  | .hbm, ⟨43, _⟩ => ⟨S1x64, .f32⟩
  | .hbm, ⟨44, _⟩ => ⟨S_, .f32⟩
  | .hbm, ⟨45, _⟩ => ⟨S1x64, .f32⟩
  | .hbm, ⟨46, _⟩ => ⟨S1x8, .f32⟩
  | .hbm, ⟨47, _⟩ => ⟨S_, .f32⟩
  | .hbm, ⟨48, _⟩ => ⟨S1x120, .f32⟩
  | .hbm, ⟨49, _⟩ => ⟨S1x3072, .f32⟩
  | .hbm, ⟨50, _⟩ => ⟨S1x896, .f32⟩
  | .hbm, ⟨51, _⟩ => ⟨S1x256, .f32⟩
  | .hbm, ⟨52, _⟩ => ⟨S1024x3072, .bf16⟩
  | .hbm, ⟨53, _⟩ => ⟨S256x1024, .f32⟩
  | .hbm, ⟨54, _⟩ => ⟨S256x1024, .bf16⟩
  | .hbm, ⟨55, _⟩ => ⟨S256x1, .f32⟩
  | .hbm, ⟨56, _⟩ => ⟨S32768x512, .f32⟩
  | .hbm, ⟨57, _⟩ => ⟨S32768x768, .bf16⟩
  | .hbm, ⟨58, _⟩ => ⟨S32768x512, .bf16⟩
  | .hbm, ⟨59, _⟩ => ⟨S8x16x320x256, .bf16⟩
  | .hbm, ⟨60, _⟩ => ⟨S32768x512, .f32⟩
  | .hbm, ⟨61, _⟩ => ⟨S32768x256, .f32⟩
  | .hbm, ⟨62, _⟩ => ⟨S32768x128, .f32⟩
  | .hbm, ⟨63, _⟩ => ⟨S32768x256, .bf16⟩
  | .hbm, ⟨64, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S1024x896, .f32⟩
  | .local _ .vmem, ⟨5, _⟩ => ⟨S1x896, .f32⟩
  | .local _ .vmem, ⟨6, _⟩ => ⟨S256x1024, .bf16⟩
  | .local _ .vmem, ⟨7, _⟩ => ⟨S256x1, .f32⟩
  | .local _ .vmem, ⟨8, _⟩ => ⟨S512x512, .f32⟩
  | .local _ .vmem, ⟨9, _⟩ => ⟨S512x512, .f32⟩
  | .local _ .vmem, ⟨10, _⟩ => ⟨S512x768, .bf16⟩
  | .local _ .vmem, ⟨11, _⟩ => ⟨S512x768, .bf16⟩
  | .local _ .vmem, ⟨12, _⟩ => ⟨S512x512, .bf16⟩
  | .local _ .vmem, ⟨13, _⟩ => ⟨S512x512, .bf16⟩
  | .local _ .vmem, ⟨14, _⟩ => ⟨S1x2x320x256, .bf16⟩
  | .local _ .vmem, ⟨15, _⟩ => ⟨S1x2x320x256, .bf16⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S512x128, .f32⟩
  | .local _ .vmem, ⟨21, _⟩ => ⟨S512x128, .f32⟩
  | .local _ .vmem, ⟨22, _⟩ => ⟨S512x256, .bf16⟩
  | .local _ .vmem, ⟨23, _⟩ => ⟨S512x256, .bf16⟩
  | .local _ .vmem, ⟨24, _⟩ => ⟨S512x1024, .f32⟩
  | .local _ .vmem, ⟨25, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47_0 : Ref sig .tc := ⟨.hbm, 56, rfl⟩
abbrev main_v47_1 : Ref sig .tc := ⟨.hbm, 57, rfl⟩
abbrev main_v47_2 : Ref sig .tc := ⟨.hbm, 58, rfl⟩
abbrev main_v47_3 : Ref sig .tc := ⟨.hbm, 59, rfl⟩
abbrev main_v47_4 : Ref sig .tc := ⟨.hbm, 60, rfl⟩
abbrev main_v47_5 : Ref sig .tc := ⟨.hbm, 61, rfl⟩
abbrev main_v47_6 : Ref sig .tc := ⟨.hbm, 62, rfl⟩
abbrev main_v47_7 : Ref sig .tc := ⟨.hbm, 63, rfl⟩
abbrev main_v47_8 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x320x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceInIdeal.lean ====
abbrev S32768x1024 : Shape := ⟨2, ![32768, 1024]⟩
abbrev S1024x3912 : Shape := ⟨2, ![1024, 3912]⟩
abbrev S3912 : Shape := ⟨1, ![3912]⟩
abbrev S32768x3912 : Shape := ⟨2, ![32768, 3912]⟩
abbrev S1x3912 : Shape := ⟨2, ![1, 3912]⟩
abbrev S32768x256 : Shape := ⟨2, ![32768, 256]⟩
abbrev S32768x512 : Shape := ⟨2, ![32768, 512]⟩
abbrev S32768x64 : Shape := ⟨2, ![32768, 64]⟩
abbrev S32768x8 : Shape := ⟨2, ![32768, 8]⟩
abbrev S_ : Shape := ⟨0, ![]⟩
abbrev S32768x768 : Shape := ⟨2, ![32768, 768]⟩
abbrev S8x16x256x4x64 : Shape := ⟨5, ![8, 16, 256, 4, 64]⟩
abbrev S8x16x4x64x256 : Shape := ⟨5, ![8, 16, 4, 64, 256]⟩
abbrev S8x16x4x16x256 : Shape := ⟨5, ![8, 16, 4, 16, 256]⟩
abbrev S8x16x4x80x256 : Shape := ⟨5, ![8, 16, 4, 80, 256]⟩
abbrev S8x16x320x256 : Shape := ⟨4, ![8, 16, 320, 256]⟩
abbrev S32768x120 : Shape := ⟨2, ![32768, 120]⟩
abbrev S32768x128 : Shape := ⟨2, ![32768, 128]⟩

abbrev nBuf : Space → Nat
  | .hbm => 113
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3912, .f32⟩
  | .hbm, ⟨2, _⟩ => ⟨S3912, .f32⟩
  | .hbm, ⟨3, _⟩ => ⟨S32768x3912, .f32⟩
  | .hbm, ⟨4, _⟩ => ⟨S1x3912, .f32⟩
  | .hbm, ⟨5, _⟩ => ⟨S32768x3912, .f32⟩
  | .hbm, ⟨6, _⟩ => ⟨S32768x3912, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S32768x256, .f32⟩
  | .hbm, ⟨12, _⟩ => ⟨S32768x256, .f32⟩
  | .hbm, ⟨13, _⟩ => ⟨S32768x256, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S32768x512, .f32⟩
  | .hbm, ⟨19, _⟩ => ⟨S32768x64, .f32⟩
  | .hbm, ⟨20, _⟩ => ⟨S32768x8, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S_, .f32⟩
  | .hbm, ⟨26, _⟩ => ⟨S32768x256, .f32⟩
  | .hbm, ⟨27, _⟩ => ⟨S32768x256, .f32⟩
  | .hbm, ⟨28, _⟩ => ⟨S32768x256, .f32⟩
  | .hbm, ⟨29, _⟩ => ⟨S_, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S_, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S_, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S_, .f32⟩
  | .hbm, ⟨47, _⟩ => ⟨S32768x256, .f32⟩
  | .hbm, ⟨48, _⟩ => ⟨S32768x256, .f32⟩
  | .hbm, ⟨49, _⟩ => ⟨S32768x256, .f32⟩
  | .hbm, ⟨50, _⟩ => ⟨S_, .f32⟩
  | .hbm, ⟨51, _⟩ => ⟨S32768x256, .f32⟩
  | .hbm, ⟨52, _⟩ => ⟨S32768x256, .f32⟩
  | .hbm, ⟨53, _⟩ => ⟨S_, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S32768x512, .f32⟩
  | .hbm, ⟨58, _⟩ => ⟨S32768x768, .f32⟩
  | .hbm, ⟨59, _⟩ => ⟨S32768x768, .bf16⟩
  | .hbm, ⟨60, _⟩ => ⟨S32768x512, .f32⟩
  | .hbm, ⟨61, _⟩ => ⟨S32768x512, .bf16⟩
  | .hbm, ⟨62, _⟩ => ⟨S8x16x256x4x64, .f32⟩
  | .hbm, ⟨63, _⟩ => ⟨S8x16x4x64x256, .f32⟩
  | .hbm, ⟨64, _⟩ => ⟨S8x16x4x64x256, .bf16⟩
  | .hbm, ⟨65, _⟩ => ⟨S_, .bf16⟩
  | .hbm, ⟨66, _⟩ => ⟨S8x16x4x16x256, .bf16⟩
  | .hbm, ⟨67, _⟩ => ⟨S8x16x4x80x256, .bf16⟩
  | .hbm, ⟨68, _⟩ => ⟨S8x16x320x256, .bf16⟩
  | .hbm, ⟨69, _⟩ => ⟨S_, .f32⟩
  | .hbm, ⟨70, _⟩ => ⟨S32768x64, .f32⟩
  | .hbm, ⟨71, _⟩ => ⟨S32768x256, .f32⟩
  | .hbm, ⟨72, _⟩ => ⟨S_, .f32⟩
  | .hbm, ⟨73, _⟩ => ⟨S32768x120, .f32⟩
  | .hbm, ⟨74, _⟩ => ⟨S32768x128, .f32⟩
  | .hbm, ⟨75, _⟩ => ⟨S32768x256, .f32⟩
  | .hbm, ⟨76, _⟩ => ⟨S32768x256, .f32⟩
  | .hbm, ⟨77, _⟩ => ⟨S_, .f32⟩
  | .hbm, ⟨78, _⟩ => ⟨S32768x256, .f32⟩
  | .hbm, ⟨79, _⟩ => ⟨S32768x256, .f32⟩
  | .hbm, ⟨80, _⟩ => ⟨S_, .f32⟩
  | .hbm, ⟨81, _⟩ => ⟨S32768x256, .f32⟩
  | .hbm, ⟨82, _⟩ => ⟨S32768x256, .f32⟩
  | .hbm, ⟨83, _⟩ => ⟨S32768x256, .f32⟩
  | .hbm, ⟨84, _⟩ => ⟨S32768x256, .f32⟩
  | .hbm, ⟨85, _⟩ => ⟨S32768x256, .f32⟩
  | .hbm, ⟨86, _⟩ => ⟨S_, .f32⟩
  | .hbm, ⟨87, _⟩ => ⟨S32768x256, .f32⟩
  | .hbm, ⟨88, _⟩ => ⟨S32768x256, .f32⟩
  | .hbm, ⟨89, _⟩ => ⟨S_, .f32⟩
  | .hbm, ⟨90, _⟩ => ⟨S32768x256, .f32⟩
  | .hbm, ⟨91, _⟩ => ⟨S32768x256, .f32⟩
  | .hbm, ⟨92, _⟩ => ⟨S32768x256, .f32⟩
  | .hbm, ⟨93, _⟩ => ⟨S32768x256, .f32⟩
  | .hbm, ⟨94, _⟩ => ⟨S32768x256, .f32⟩
  | .hbm, ⟨95, _⟩ => ⟨S_, .f32⟩
  | .hbm, ⟨96, _⟩ => ⟨S32768x256, .f32⟩
  | .hbm, ⟨97, _⟩ => ⟨S32768x256, .f32⟩
  | .hbm, ⟨98, _⟩ => ⟨S_, .f32⟩
  | .hbm, ⟨99, _⟩ => ⟨S32768x256, .f32⟩
  | .hbm, ⟨100, _⟩ => ⟨S32768x256, .f32⟩
  | .hbm, ⟨101, _⟩ => ⟨S32768x256, .f32⟩
  | .hbm, ⟨102, _⟩ => ⟨S32768x256, .f32⟩
  | .hbm, ⟨103, _⟩ => ⟨S32768x256, .f32⟩
  | .hbm, ⟨104, _⟩ => ⟨S_, .f32⟩
  | .hbm, ⟨105, _⟩ => ⟨S32768x256, .f32⟩
  | .hbm, ⟨106, _⟩ => ⟨S32768x256, .f32⟩
  | .hbm, ⟨107, _⟩ => ⟨S_, .f32⟩
  | .hbm, ⟨108, _⟩ => ⟨S32768x256, .f32⟩
  | .hbm, ⟨109, _⟩ => ⟨S32768x256, .f32⟩
  | .hbm, ⟨110, _⟩ => ⟨S32768x256, .f32⟩
  | .hbm, ⟨111, _⟩ => ⟨S32768x1024, .f32⟩
  | .hbm, ⟨112, _⟩ => ⟨S32768x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v61 : Ref sig .tc := ⟨.hbm, 83, rfl⟩
abbrev main_call1_v0 : Ref sig .tc := ⟨.hbm, 84, rfl⟩
abbrev main_call1_v1 : Ref sig .tc := ⟨.hbm, 85, rfl⟩
abbrev main_call1_cst : Ref sig .tc := ⟨.hbm, 86, rfl⟩
abbrev main_call1_v2 : Ref sig .tc := ⟨.hbm, 87, rfl⟩
abbrev main_call1_v3 : Ref sig .tc := ⟨.hbm, 88, rfl⟩
abbrev main_call1_cst_0 : Ref sig .tc := ⟨.hbm, 89, rfl⟩
abbrev main_call1_v4 : Ref sig .tc := ⟨.hbm, 90, rfl⟩
abbrev main_call1_v5 : Ref sig .tc := ⟨.hbm, 91, rfl⟩
abbrev main_v62 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v63 : Ref sig .tc := ⟨.hbm, 101, rfl⟩
abbrev main_call3_v0 : Ref sig .tc := ⟨.hbm, 102, rfl⟩
abbrev main_call3_v1 : Ref sig .tc := ⟨.hbm, 103, rfl⟩
abbrev main_call3_cst : Ref sig .tc := ⟨.hbm, 104, rfl⟩
abbrev main_call3_v2 : Ref sig .tc := ⟨.hbm, 105, rfl⟩
abbrev main_call3_v3 : Ref sig .tc := ⟨.hbm, 106, rfl⟩
abbrev main_call3_cst_0 : Ref sig .tc := ⟨.hbm, 107, rfl⟩
abbrev main_call3_v4 : Ref sig .tc := ⟨.hbm, 108, rfl⟩
abbrev main_call3_v5 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩

abbrev nD : Nat := 1
abbrev τ : Topo := Topo.v7x

variable {F : FTy → Type} [FloatOps F]
-- ==== KernelGmlp.lean ====
abbrev S8x4096x256 : Shape := ⟨3, ![8, 4096, 256]⟩
abbrev S32768x1024 : Shape := ⟨2, ![32768, 1024]⟩
abbrev S256 : Shape := ⟨1, ![256]⟩
abbrev S4x128x128 : Shape := ⟨3, ![4, 128, 128]⟩
abbrev S4x128 : Shape := ⟨2, ![4, 128]⟩
abbrev S8x4096x512 : Shape := ⟨3, ![8, 4096, 512]⟩
abbrev S32768x512 : Shape := ⟨2, ![32768, 512]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S32768x256 : Shape := ⟨2, ![32768, 256]⟩
abbrev S2048x512 : Shape := ⟨2, ![2048, 512]⟩
abbrev S2048x256 : Shape := ⟨2, ![2048, 256]⟩

abbrev nBuf : Space → Nat
  | .hbm => 46
  | .vmem => 10
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S32768x1024, .f32⟩
  | .hbm, ⟨3, _⟩ => ⟨S256, .f32⟩
  | .hbm, ⟨4, _⟩ => ⟨S256, .f32⟩
  | .hbm, ⟨5, _⟩ => ⟨S4x128x128, .f32⟩
  | .hbm, ⟨6, _⟩ => ⟨S4x128, .f32⟩
  | .hbm, ⟨7, _⟩ => ⟨S8x4096x512, .f32⟩
  | .hbm, ⟨8, _⟩ => ⟨S32768x512, .f32⟩
  | .hbm, ⟨9, _⟩ => ⟨S128, .i32⟩
  | .hbm, ⟨10, _⟩ => ⟨S_, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S128, .i1⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S1x128, .i32⟩
  | .hbm, ⟨29, _⟩ => ⟨S128x1, .i32⟩
  | .hbm, ⟨30, _⟩ => ⟨S128x128, .i32⟩
  | .hbm, ⟨31, _⟩ => ⟨S128x128, .i32⟩
  | .hbm, ⟨32, _⟩ => ⟨S128x128, .i1⟩
  | .hbm, ⟨33, _⟩ => ⟨S1x128x128, .i1⟩
  | .hbm, ⟨34, _⟩ => ⟨S_, .f32⟩
  | .hbm, ⟨35, _⟩ => ⟨S_, .f32⟩
  | .hbm, ⟨36, _⟩ => ⟨S4x128x128, .i1⟩
  | .hbm, ⟨37, _⟩ => ⟨S4x128x128, .f32⟩
  | .hbm, ⟨38, _⟩ => ⟨S4x128x128, .f32⟩
  | .hbm, ⟨39, _⟩ => ⟨S4x128x128, .bf16⟩
  | .hbm, ⟨40, _⟩ => ⟨S128x4, .f32⟩
  | .hbm, ⟨41, _⟩ => ⟨S128x4x64, .f32⟩
  | .hbm, ⟨42, _⟩ => ⟨S128x256, .f32⟩
  | .hbm, ⟨43, _⟩ => ⟨S1x256, .f32⟩
  | .hbm, ⟨44, _⟩ => ⟨S1x256, .f32⟩
  | .hbm, ⟨45, _⟩ => ⟨S32768x256, .bf16⟩
  | .local _ .vmem, ⟨0, _⟩ => ⟨S2048x512, .f32⟩
  | .local _ .vmem, ⟨1, _⟩ => ⟨S2048x512, .f32⟩
  | .local _ .vmem, ⟨2, _⟩ => ⟨S2048x256, .f32⟩
  | .local _ .vmem, ⟨3, _⟩ => ⟨S2048x256, .f32⟩
  | .local _ .vmem, ⟨4, _⟩ => ⟨S1x256, .f32⟩
  | .local _ .vmem, ⟨5, _⟩ => ⟨S1x256, .f32⟩
  | .local _ .vmem, ⟨6, _⟩ => ⟨S4x128x128, .bf16⟩
  | .local _ .vmem, ⟨7, _⟩ => ⟨S128x256, .f32⟩
  | .local _ .vmem, ⟨8, _⟩ => ⟨S2048x256, .bf16⟩
  | .local _ .vmem, ⟨9, _⟩ => ⟨S2048x256, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceGmlpIdeal.lean ====
abbrev S8x4096x256 : Shape := ⟨3, ![8, 4096, 256]⟩
abbrev S32768x1024 : Shape := ⟨2, ![32768, 1024]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x128x4x64 : Shape := ⟨5, ![8, 32, 128, 4, 64]⟩
abbrev S4x8x32x64x128 : Shape := ⟨5, ![4, 8, 32, 64, 128]⟩
abbrev S128x4 : Shape := ⟨2, ![128, 4]⟩
abbrev S1x1x128x4x1 : Shape := ⟨5, ![1, 1, 128, 4, 1]⟩
abbrev S32768x256 : Shape := ⟨2, ![32768, 256]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S32768x1024, .f32⟩
  | .hbm, ⟨3, _⟩ => ⟨S256, .f32⟩
  | .hbm, ⟨4, _⟩ => ⟨S256, .f32⟩
  | .hbm, ⟨5, _⟩ => ⟨S4x128x128, .f32⟩
  | .hbm, ⟨6, _⟩ => ⟨S4x128, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x256, .f32⟩
  | .hbm, ⟨14, _⟩ => ⟨S8x4096x256, .f32⟩
  | .hbm, ⟨15, _⟩ => ⟨S8x4096x256, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x256, .f32⟩
  | .hbm, ⟨23, _⟩ => ⟨S8x4096x256, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x256, .f32⟩
  | .hbm, ⟨29, _⟩ => ⟨S8x4096x256, .f32⟩
  | .hbm, ⟨30, _⟩ => ⟨S1x1x256, .f32⟩
  | .hbm, ⟨31, _⟩ => ⟨S8x4096x256, .f32⟩
  | .hbm, ⟨32, _⟩ => ⟨S8x4096x256, .f32⟩
  | .hbm, ⟨33, _⟩ => ⟨S1x1x256, .f32⟩
  | .hbm, ⟨34, _⟩ => ⟨S8x4096x256, .f32⟩
  | .hbm, ⟨35, _⟩ => ⟨S8x4096x256, .f32⟩
  | .hbm, ⟨36, _⟩ => ⟨S128, .i32⟩
  | .hbm, ⟨37, _⟩ => ⟨S_, .i32⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S128, .i1⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S128, .i32⟩
  | .hbm, ⟨55, _⟩ => ⟨S1x128, .i32⟩
  | .hbm, ⟨56, _⟩ => ⟨S128x1, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S1x128x128, .i1⟩
  | .hbm, ⟨61, _⟩ => ⟨S_, .f32⟩
  | .hbm, ⟨62, _⟩ => ⟨S_, .f32⟩
  | .hbm, ⟨63, _⟩ => ⟨S4x128x128, .i1⟩
  | .hbm, ⟨64, _⟩ => ⟨S4x128x128, .f32⟩
  | .hbm, ⟨65, _⟩ => ⟨S4x128x128, .f32⟩
  | .hbm, ⟨66, _⟩ => ⟨S8x32x128x4x64, .f32⟩
  | .hbm, ⟨67, _⟩ => ⟨S4x8x32x64x128, .f32⟩
  | .hbm, ⟨68, _⟩ => ⟨S8x32x128x4x64, .f32⟩
  | .hbm, ⟨69, _⟩ => ⟨S128x4, .f32⟩
  | .hbm, ⟨70, _⟩ => ⟨S1x1x128x4x1, .f32⟩
  | .hbm, ⟨71, _⟩ => ⟨S8x32x128x4x64, .f32⟩
  | .hbm, ⟨72, _⟩ => ⟨S8x32x128x4x64, .f32⟩
  | .hbm, ⟨73, _⟩ => ⟨S8x4096x256, .f32⟩
  | .hbm, ⟨74, _⟩ => ⟨S8x4096x256, .f32⟩
  | .hbm, ⟨75, _⟩ => ⟨S32768x256, .f32⟩
  | .hbm, ⟨76, _⟩ => ⟨S32768x256, .f32⟩
  | .hbm, ⟨77, _⟩ => ⟨S32768x256, .f32⟩
  | .hbm, ⟨78, _⟩ => ⟨S32768x256, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_4 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩

abbrev nD : Nat := 1
abbrev τ : Topo := Topo.v7x

variable {F : FTy → Type} [FloatOps F]
-- ==== KernelMemkv.lean ====
abbrev S8x256x1024 : Shape := ⟨3, ![8, 256, 1024]⟩
abbrev S1024x512 : Shape := ⟨2, ![1024, 512]⟩
abbrev S8x256x256 : Shape := ⟨3, ![8, 256, 256]⟩
abbrev S1x256x1024 : Shape := ⟨3, ![1, 256, 1024]⟩
abbrev S1x256x256 : Shape := ⟨3, ![1, 256, 256]⟩
abbrev S256x1024 : Shape := ⟨2, ![256, 1024]⟩
abbrev S256x512 : Shape := ⟨2, ![256, 512]⟩
abbrev S256x256 : Shape := ⟨2, ![256, 256]⟩

abbrev nBuf : Space → Nat
  | .hbm => 5
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S1024x512, .f32⟩
  | .hbm, ⟨2, _⟩ => ⟨S1024x512, .bf16⟩
  | .hbm, ⟨3, _⟩ => ⟨S8x256x256, .bf16⟩
  | .hbm, ⟨4, _⟩ => ⟨S8x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1024x512, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceMemkvIdeal.lean ====
abbrev S8x256x1024 : Shape := ⟨3, ![8, 256, 1024]⟩
abbrev S1024x512 : Shape := ⟨2, ![1024, 512]⟩
abbrev S8x256x512 : Shape := ⟨3, ![8, 256, 512]⟩
abbrev S8x256x256 : Shape := ⟨3, ![8, 256, 256]⟩

abbrev nBuf : Space → Nat
  | .hbm => 7
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x512, .f32⟩
  | .hbm, ⟨2, _⟩ => ⟨S8x256x512, .f32⟩
  | .hbm, ⟨3, _⟩ => ⟨S8x256x256, .f32⟩
  | .hbm, ⟨4, _⟩ => ⟨S8x256x256, .f32⟩
  | .hbm, ⟨5, _⟩ => ⟨S8x256x256, .bf16⟩
  | .hbm, ⟨6, _⟩ => ⟨S8x256x256, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelMem.lean ====
abbrev S8x4096x256 : Shape := ⟨3, ![8, 4096, 256]⟩
abbrev S8x256x256 : Shape := ⟨3, ![8, 256, 256]⟩
abbrev S32768x1024 : Shape := ⟨2, ![32768, 1024]⟩
abbrev S_ : Shape := ⟨0, ![]⟩
abbrev S32768x256 : Shape := ⟨2, ![32768, 256]⟩
abbrev S2048x256 : Shape := ⟨2, ![2048, 256]⟩
abbrev S1x256x256 : Shape := ⟨3, ![1, 256, 256]⟩
abbrev S256x256 : Shape := ⟨2, ![256, 256]⟩
abbrev S2048 : Shape := ⟨1, ![2048]⟩
abbrev S2048x1 : Shape := ⟨2, ![2048, 1]⟩

abbrev nBuf : Space → Nat
  | .hbm => 17
  | .vmem => 10
  | .smem => 0
  | _ => 0

abbrev bufTy : (tb : Table) → Fin (tcTables nBuf tb) → BufTy
  | .hbm, ⟨0, _⟩ => ⟨S8x4096x256, .f32⟩
  | .hbm, ⟨1, _⟩ => ⟨S8x256x256, .f32⟩
  | .hbm, ⟨2, _⟩ => ⟨S8x256x256, .f32⟩
  | .hbm, ⟨3, _⟩ => ⟨S32768x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x256, .f32⟩
  | .hbm, ⟨11, _⟩ => ⟨S8x4096x256, .f32⟩
  | .hbm, ⟨12, _⟩ => ⟨S8x4096x256, .bf16⟩
  | .hbm, ⟨13, _⟩ => ⟨S32768x256, .bf16⟩
  | .hbm, ⟨14, _⟩ => ⟨S8x256x256, .bf16⟩
  | .hbm, ⟨15, _⟩ => ⟨S8x256x256, .bf16⟩
  | .hbm, ⟨16, _⟩ => ⟨S32768x256, .bf16⟩
  | .local _ .vmem, ⟨0, _⟩ => ⟨S2048x256, .bf16⟩
  | .local _ .vmem, ⟨1, _⟩ => ⟨S2048x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMemIdeal.lean ====
abbrev S8x4096x256 : Shape := ⟨3, ![8, 4096, 256]⟩
abbrev S8x256x256 : Shape := ⟨3, ![8, 256, 256]⟩
abbrev S32768x1024 : Shape := ⟨2, ![32768, 1024]⟩
abbrev S8x4096x4x64 : Shape := ⟨4, ![8, 4096, 4, 64]⟩
abbrev S8x256x4x64 : Shape := ⟨4, ![8, 256, 4, 64]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S32768x256 : Shape := ⟨2, ![32768, 256]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x256x256, .f32⟩
  | .hbm, ⟨2, _⟩ => ⟨S8x256x256, .f32⟩
  | .hbm, ⟨3, _⟩ => ⟨S32768x1024, .f32⟩
  | .hbm, ⟨4, _⟩ => ⟨S8x4096x4x64, .f32⟩
  | .hbm, ⟨5, _⟩ => ⟨S8x256x4x64, .f32⟩
  | .hbm, ⟨6, _⟩ => ⟨S8x256x4x64, .f32⟩
  | .hbm, ⟨7, _⟩ => ⟨S8x4x4096x256, .f32⟩
  | .hbm, ⟨8, _⟩ => ⟨S_, .f32⟩
  | .hbm, ⟨9, _⟩ => ⟨S8x4x4096x256, .f32⟩
  | .hbm, ⟨10, _⟩ => ⟨S8x4x4096x256, .f32⟩
  | .hbm, ⟨11, _⟩ => ⟨S_, .f32⟩
  | .hbm, ⟨12, _⟩ => ⟨S8x4x4096, .f32⟩
  | .hbm, ⟨13, _⟩ => ⟨S_, .f32⟩
  | .hbm, ⟨14, _⟩ => ⟨S8x4x4096, .f32⟩
  | .hbm, ⟨15, _⟩ => ⟨S8x4x4096, .f32⟩
  | .hbm, ⟨16, _⟩ => ⟨S8x4x4096x1, .f32⟩
  | .hbm, ⟨17, _⟩ => ⟨S8x4x4096x256, .f32⟩
  | .hbm, ⟨18, _⟩ => ⟨S8x4x4096x256, .f32⟩
  | .hbm, ⟨19, _⟩ => ⟨S8x4x4096x256, .f32⟩
  | .hbm, ⟨20, _⟩ => ⟨S_, .f32⟩
  | .hbm, ⟨21, _⟩ => ⟨S8x4x4096, .f32⟩
  | .hbm, ⟨22, _⟩ => ⟨S8x4x4096x1, .f32⟩
  | .hbm, ⟨23, _⟩ => ⟨S8x4x4096x256, .f32⟩
  | .hbm, ⟨24, _⟩ => ⟨S8x4x4096x256, .f32⟩
  | .hbm, ⟨25, _⟩ => ⟨S8x4x64x4096, .f32⟩
  | .hbm, ⟨26, _⟩ => ⟨S8x4096x4x64, .f32⟩
  | .hbm, ⟨27, _⟩ => ⟨S8x4096x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .bf16⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.BandMath.lean ====
module

public import Idealize.ShloMosaic.PureOps.Ideal
public import Idealize.ShloMosaic.PureOps.Ideal.Laws
public import Mathlib.Analysis.SpecialFunctions.Pow.Real

@[expose] public section

noncomputable section

namespace Cert.Band

open Idealize.ShloMosaic

/-- A number that is not `⊤` and not below every real is a real. -/
theorem coe_of_ne {x : EReal} (ht : x ≠ ⊤) (hb : x ≠ ⊥) : ∃ r : ℝ, x = (r : EReal) :=
  ⟨x.toReal, (EReal.coe_toReal ht hb).symm⟩

/-- The least upper bound of a finite family that is not empty is one of its members. -/
theorem lub_mem {κ : Type*} [Fintype κ] [Nonempty κ] (S : κ → EReal) (M : EReal)
    (hM : ∀ b, M ≤ b ↔ ∀ x, S x ≤ b) : ∃ x, S x = M := by
  obtain ⟨x, -, hx⟩ := Finset.exists_max_image Finset.univ S Finset.univ_nonempty
  exact ⟨x, le_antisymm ((hM M).1 le_rfl x) ((hM _).2 fun y => hx y (Finset.mem_univ y))⟩

/-- The weight of a score against a real maximum, in base `e`: zero where the score is masked. -/
def wgt (s : EReal) (m : ℝ) : ℝ := if s = ⊥ then 0 else Real.exp (s.toReal - m)

theorem wgt_nonneg (s : EReal) (m : ℝ) : 0 ≤ wgt s m := by
  unfold wgt; split
  · exact le_rfl
  · exact (Real.exp_pos _).le

theorem exp_wgt (s : EReal) (m : ℝ) (hs : s ≠ ⊤) : Ideal.exp (s - (m : EReal)) = (wgt s m : EReal) := by
  by_cases hb : s = ⊥
  · subst hb; simp [wgt]
  · obtain ⟨r, rfl⟩ := coe_of_ne hs hb
    rw [← EReal.coe_sub, Ideal.exp_coe]; simp [wgt]

/-- With scores carrying the factor `1/log 2`, base two gives the weights of base `e`. -/
theorem exp2_wgt (s : EReal) (m L : ℝ) (hL : L = 1 / Real.log 2) (hs : s ≠ ⊤) :
    Ideal.exp2 ((L : EReal) * s - ((L * m : ℝ) : EReal)) = (wgt s m : EReal) := by
  have h2 : 0 < Real.log 2 := Real.log_pos one_lt_two
  have hL0 : 0 < L := by rw [hL]; positivity
  by_cases hb : s = ⊥
  · subst hb; rw [EReal.coe_mul_bot_of_pos hL0]; simp [wgt]
  · obtain ⟨r, rfl⟩ := coe_of_ne hs hb
    rw [← EReal.coe_mul, ← EReal.coe_sub, Ideal.exp2_coe]
    simp only [wgt, EReal.coe_ne_bot, if_false, EReal.toReal_coe]
    congr 1
    rw [Real.rpow_eq_pow, Real.rpow_def_of_pos two_pos]
    congr 1
    rw [hL]; field_simp

/-- A nonnegative real factor goes into a finite sum of extended reals. -/
theorem sum_mul_real {κ : Type*} (t : Finset κ) (f : κ → EReal) (c : ℝ) (hc : 0 ≤ c) :
    (∑ x ∈ t, f x) * (c : EReal) = ∑ x ∈ t, f x * (c : EReal) := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

/-- A finite sum of reals, as an extended real. -/
theorem coe_sum {κ : Type*} (t : Finset κ) (f : κ → ℝ) :
    ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- THE SOFTMAX EQUATION. `S` are scores over all keys, `⊥` at the keys outside a window `e`, and on the
    window `1/log 2` times the scores `S'`. Then the weighted sum over all keys in base two, times the
    inverse of the sum of weights, is the softmax of `S'` over the window in base `e`, times the values. -/
theorem soft {ι κ : Type*} [Fintype ι] [Fintype κ] (e : κ → ι) (he : Function.Injective e)
    (S V : ι → EReal) (S' V' : κ → EReal) (L : ℝ) (hL : L = 1 / Real.log 2)
    (hin : ∀ x, S (e x) = (L : EReal) * S' x) (hout : ∀ n, (∀ x, e x ≠ n) → S n = ⊥)
    (htop : ∀ x, S' x ≠ ⊤) (x1 : κ) (hx1 : S' x1 ≠ ⊥)
    (hV : ∀ x, S' x ≠ ⊥ → V (e x) = V' x)
    (M M' : EReal) (hM : ∀ b, M ≤ b ↔ ∀ n, S n ≤ b) (hM' : ∀ b, M' ≤ b ↔ ∀ x, S' x ≤ b) :
    (∑ n, Ideal.exp2 (S n - M) * V n) * Ideal.div 1 (∑ n, Ideal.exp2 (S n - M))
      = ∑ x, Ideal.div (Ideal.exp (S' x - M')) (∑ y, Ideal.exp (S' y - M')) * V' x := by
  classical
  haveI : Nonempty κ := ⟨x1⟩
  have h2 : 0 < Real.log 2 := Real.log_pos one_lt_two
  have hL0 : 0 < L := by rw [hL]; positivity
  obtain ⟨x0, hx0⟩ := lub_mem S' M' hM'
  have hMt : M' ≠ ⊤ := hx0 ▸ htop x0
  have hMb : M' ≠ ⊥ := by
    intro h
    have := (hM' M').1 le_rfl x1
    rw [h, le_bot_iff] at this
    exact hx1 this
  obtain ⟨m, hm⟩ := coe_of_ne hMt hMb
  have hMm : M = ((L * m : ℝ) : EReal) := by
    apply le_antisymm
    · rw [hM]
      intro n
      by_cases hn : ∃ x, e x = n
      · obtain ⟨x, rfl⟩ := hn
        rw [hin, EReal.coe_mul, ← hm]
        exact mul_le_mul_of_nonneg_left ((hM' M').1 le_rfl x) (by exact_mod_cast hL0.le)
      · push Not at hn
        rw [hout n hn]; exact bot_le
    · rw [EReal.coe_mul, ← hm, ← hx0, ← hin]
      exact (hM M).1 le_rfl _
  have hP : ∀ x, Ideal.exp2 (S (e x) - M) = (wgt (S' x) m : EReal) := fun x => by
    rw [hin, hMm, exp2_wgt _ _ _ hL (htop x)]
  have hP0 : ∀ n, (∀ x, e x ≠ n) → Ideal.exp2 (S n - M) = 0 := fun n hn => by
    rw [hout n hn, hMm]; simp
  have hQ : ∀ x, Ideal.exp (S' x - M') = (wgt (S' x) m : EReal) := fun x => by
    rw [hm, exp_wgt _ _ (htop x)]
  have sumι : ∀ f : ι → EReal, (∀ n, (∀ x, e x ≠ n) → f n = 0) → ∑ n, f n = ∑ x, f (e x) := fun f hf => by
    refine (Finset.sum_of_injOn e he.injOn (fun _ _ => Finset.mem_coe.2 (Finset.mem_univ _)) ?_
      (fun _ _ => rfl)).symm
    intro n _ hn
    refine hf n fun x hx => hn ?_
    simp only [Finset.coe_univ, Set.image_univ]
    exact ⟨x, hx⟩
  set W : ℝ := ∑ x, wgt (S' x) m with hW
  have hWpos : 0 < W := by
    have h1 : wgt (S' x0) m = 1 := by
      rw [hx0, hm]; simp [wgt]
    have := Finset.single_le_sum (f := fun x => wgt (S' x) m) (fun x _ => wgt_nonneg _ _) (Finset.mem_univ x0)
    simp only [h1] at this
    linarith
  have hden : ∑ n, Ideal.exp2 (S n - M) = (W : EReal) := by
    rw [sumι _ hP0, hW, coe_sum]; exact Finset.sum_congr rfl fun x _ => hP x
  have hden' : ∑ y, Ideal.exp (S' y - M') = (W : EReal) := by
    rw [hW, coe_sum]; exact Finset.sum_congr rfl fun x _ => hQ x
  rw [hden, hden', Ideal.div_coe hWpos.ne', one_mul,
    sumι (fun n => Ideal.exp2 (S n - M) * V n) (fun n hn => by rw [hP0 n hn, zero_mul]),
    sum_mul_real _ _ _ (by positivity)]
  refine Finset.sum_congr rfl fun x _ => ?_
  rw [hP, hQ, Ideal.div_coe hWpos.ne']
  by_cases hb : S' x = ⊥
  · simp [hb, wgt]
  · rw [hV x hb, mul_right_comm]

end Cert.Band

end
-- ==== Proof.BandBlock.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Band

open Cert.KernelIdeal Cert.KernelIdeal.Gen Idealize.ShloMosaic Idealize.ShloMosaic.TcCoe Idealize.SL.Sem
open Idealize.ShloMosaic.Pipeline (Dat)

abbrev B2 : Type := FVec Ideal S256x256 .bf16
abbrev F2 : Type := FVec Ideal S256x256 .f32
abbrev B4 : Type := Vec Ideal S1x1x256x256 .bf16
abbrev F4 : Type := Vec Ideal S1x1x256x256 .f32

/-- A loaded block as a matrix. -/
def flat (x : B4) : B2 := shapeCast S256x256 x shapeCasts_S1x1x256x256_S256x256

/-- The query block with every lane outside head `h` set to zero. -/
def qh (q : B4) (h : BitVec 32) : B2 :=
  select (cmpi .eq k0_pay2 (broadcast S256x256 h)) (flat q)
    (broadcast S256x256 (Scalar.ofBits .bf16 0x0000#16))

/-- The scores of one key tile: head `h`'s queries against the tile's keys, plus the tile's bias block. -/
def sc (q k : B4) (h : BitVec 32) (b : F4) : F2 :=
  addf (matmul dot_S256x256_S256x256_S256x256_1_1_0_0_n_n none (qh q h)
      (flat k) (constant S256x256 .f32 0x00000000#32))
    (shapeCast S256x256 b shapeCasts_S1x1x256x256_S256x256)

/-- A row's greatest score over one tile, as a column. -/
def mx1 (s : F2) : FVec Ideal S256x1 .f32 :=
  shapeCast S256x1 (multiReduction .maximumf [1] S256 s 0xFF800000#32 reduces_S256x256_S256 (.inl rfl) rfl)
    shapeCasts_S256_S256x1

/-- A row's greatest score over the three tiles. -/
def mx3 (s0 s1 s2 : F2) : FVec Ideal S256x1 .f32 :=
  maximumf (maximumf (mx1 s0) (mx1 s1)) (mx1 s2)

/-- The weights of one tile: two to the power of the scores less the row's maximum. -/
def pw (s : F2) (m : FVec Ideal S256x1 .f32) : F2 :=
  exp2 (subf s (broadcastTo S256x256 m broadcasts_S256x1_S256x256))

/-- The sum of a tile's weights by row. -/
def dn (p : F2) : FVec Ideal S256x1 .f32 :=
  shapeCast S256x1 (multiReduction .add [1] S256 p 0x00000000#32 reduces_S256x256_S256 (.inl rfl) rfl)
    shapeCasts_S256_S256x1

/-- The weighted sum of a tile's values. -/
def wv (p : F2) (v : B4) : F2 :=
  matmul dot_S256x256_S256x256_S256x256_1_0_0_1_n_n none (truncf .bf16 p bitsLt_bf16_f32)
    (flat v) (constant S256x256 .f32 0x00000000#32)

/-- One head's output over the three tiles: the weighted sums times the inverse of the weights' sum. -/
def hd (s0 s1 s2 : F2) (v0 v1 v2 : B4) : F2 :=
  mulf
    (addf (addf (addf (broadcast S256x256 (Scalar.ofBits .f32 0x00000000#32)) (wv (pw s0 (mx3 s0 s1 s2)) v0))
      (wv (pw s1 (mx3 s0 s1 s2)) v1)) (wv (pw s2 (mx3 s0 s1 s2)) v2))
    (broadcastTo S256x256
      (divf (broadcast S256x1 (Scalar.ofBits .f32 0x3F800000#32))
        (addf (addf (addf (broadcast S256x1 (Scalar.ofBits .f32 0x00000000#32)) (dn (pw s0 (mx3 s0 s1 s2))))
          (dn (pw s1 (mx3 s0 s1 s2)))) (dn (pw s2 (mx3 s0 s1 s2)))))
      broadcasts_S256x1_S256x256)

/-- Head `h`'s output laid over what the heads before it left. -/
def hsel (h : BitVec 32) (o prev : F2) : F2 :=
  select (cmpi .eq k0_pay2 (broadcast S256x256 h)) o prev

/-- The whole block the body stores. -/
def outV (q k0 k1 k2 v0 v1 v2 : B4) (b0 b1 b2 b3 : Fin 3 → F4) (g : Vec Ideal S256x256 .f32) : B2 :=
  truncf .bf16 (mulf
    (hsel 3#32 (hd (sc q k0 3#32 (b3 0)) (sc q k1 3#32 (b3 1)) (sc q k2 3#32 (b3 2)) v0 v1 v2)
    (hsel 2#32 (hd (sc q k0 2#32 (b2 0)) (sc q k1 2#32 (b2 1)) (sc q k2 2#32 (b2 2)) v0 v1 v2)
    (hsel 1#32 (hd (sc q k0 1#32 (b1 0)) (sc q k1 1#32 (b1 1)) (sc q k2 1#32 (b1 2)) v0 v1 v2)
    (hsel 0#32 (hd (sc q k0 0#32 (b0 0)) (sc q k1 0#32 (b0 1)) (sc q k2 0#32 (b0 2)) v0 v1 v2)
    (broadcast S256x256 (Scalar.ofBits .f32 0x00000000#32)))))) g) bitsLt_bf16_f32

/-- The bias block head 0 reads for tile `t` at grid coordinates `i`. -/
def bblk0 (x2 : Vec Ideal S4x4x256x256 .f32) (i : grid0.Coords) (t : Fin 3) : F4 :=
  View.ld x2 (Rect.unit (s := S4x4x256x256) (k0_off4 i (k0_off4_at t).1 (k0_off4_at t).2) S1x1x256x256.size
    (k0_off4_inb i t))

/-- The bias block head 1 reads for tile `t` at grid coordinates `i`. -/
def bblk1 (x2 : Vec Ideal S4x4x256x256 .f32) (i : grid0.Coords) (t : Fin 3) : F4 :=
  View.ld x2 (Rect.unit (s := S4x4x256x256) (k0_off5 i (k0_off5_at t).1 (k0_off5_at t).2) S1x1x256x256.size
    (k0_off5_inb i t))

/-- The bias block head 2 reads for tile `t` at grid coordinates `i`. -/
def bblk2 (x2 : Vec Ideal S4x4x256x256 .f32) (i : grid0.Coords) (t : Fin 3) : F4 :=
  View.ld x2 (Rect.unit (s := S4x4x256x256) (k0_off6 i (k0_off6_at t).1 (k0_off6_at t).2) S1x1x256x256.size
    (k0_off6_inb i t))

/-- The bias block head 3 reads for tile `t` at grid coordinates `i`. -/
def bblk3 (x2 : Vec Ideal S4x4x256x256 .f32) (i : grid0.Coords) (t : Fin 3) : F4 :=
  View.ld x2 (Rect.unit (s := S4x4x256x256) (k0_off7 i (k0_off7_at t).1 (k0_off7_at t).2) S1x1x256x256.size
    (k0_off7_inb i t))

/-- The query block at grid coordinates `i`. -/
def qblk (x0 : Vec Ideal S1x16x256x768 .bf16) (i : grid0.Coords) : B4 :=
  View.ld x0 (Rect.unit (s := S1x16x256x768) (k0_off1 i) S1x1x256x256.size (k0_off1_inb i))

/-- The key tile `d` tiles before the query's. -/
def kblk (x0 : Vec Ideal S1x16x256x768 .bf16) (i : grid0.Coords) (d : Fin 3) : B4 :=
  View.ld x0 (Rect.unit (s := S1x16x256x768) (k0_off2 i (BitVec.ofNat 32 d.val)) S1x1x256x256.size (k0_off2_inb i d))

/-- The value tile `d` tiles before the query's. -/
def vblk (x0 : Vec Ideal S1x16x256x768 .bf16) (i : grid0.Coords) (d : Fin 3) : B4 :=
  View.ld x0 (Rect.unit (s := S1x16x256x768) (k0_off3 i (BitVec.ofNat 32 d.val)) S1x1x256x256.size (k0_off3_inb i d))

/-- What the body leaves in its output block is `outV` over the blocks it loads. -/
theorem out_eq (c : Dev nD) (i : grid0.Coords) (arg2 : Memref sig .tc .vmem S1x16x256x768 .bf16) (harg2 : arg2.IsWhole) (arg3 : Memref sig .tc .vmem S256x256 .f32) (harg3 : arg3.IsWhole) (arg4 : Memref sig .tc .vmem S4x4x256x256 .f32) (harg4 : arg4.IsWhole) (arg5 : Memref sig .tc .vmem S256x256 .bf16) (harg5 : arg5.IsWhole)
    (x0 : Vec Ideal S1x16x256x768 .bf16) (x1 : Vec Ideal S256x256 .f32) (x2 : Vec Ideal S4x4x256x256 .f32) (y : S256x256.Idx) :
    out0_A_3 c i arg2 harg2 arg3 harg3 arg4 harg4 arg5 harg5 x0 x1 x2 y
      = outV (qblk x0 i) (kblk x0 i 2) (kblk x0 i 1) (kblk x0 i 0) (vblk x0 i 2) (vblk x0 i 1) (vblk x0 i 0)
          (bblk0 x2 i) (bblk1 x2 i) (bblk2 x2 i) (bblk3 x2 i) x1 y := by
  frame_out
  rfl

end Cert.Band

end
-- ==== Proof.BandRead.lean ====
module

public import proofs.«01_k».proof.Proof.BandBlock
public import Idealize.ShloMosaic.Lib.Pipeline.ValueKit
public import Idealize.ShloMosaic.Lib.Pointwise

@[expose] public section

set_option maxRecDepth 16384

noncomputable section

namespace Cert.Band

open Cert.KernelIdeal Cert.KernelIdeal.Gen Idealize.ShloMosaic Idealize.ShloMosaic.TcCoe Idealize.SL.Sem
open Idealize.ShloMosaic.Pipeline (Dat)

/-- The head number of lane `c` is `c / 64`. -/
theorem lane_at (r c : Fin 256) : k0_pay2 (ix2 r c) = BitVec.ofNat 32 (c.val / 64) := by
  pointwise [k0_pay2]
  revert c
  decide +kernel

/-- A loaded block's element. -/
theorem flat_at (x : B4) (r c : Fin 256) : flat x (ix2 r c) = x (ix4 0 0 r c) := by
  pointwise [flat]

/-- Comparing a lane's head number with `h`. -/
theorem lane_sel {α : Type} (h : Fin 4) (c : Fin 256) (x y : α) :
    Scalar.select (IntOp.cmpi .eq (BitVec.ofNat 32 (c.val / 64)) (BitVec.ofNat 32 h.val)) x y
      = if c.val / 64 = h.val then x else y := by
  have key : ∀ (h : Fin 4) (c : Fin 256),
      (IntOp.cmpi .eq (BitVec.ofNat 32 (c.val / 64)) (BitVec.ofNat 32 h.val) = 1#1) ↔ c.val / 64 = h.val := by
    decide +kernel
  by_cases hc : c.val / 64 = h.val
  · rw [(key h c).2 hc, if_pos hc]; rfl
  · have h0 : IntOp.cmpi .eq (BitVec.ofNat 32 (c.val / 64)) (BitVec.ofNat 32 h.val) = 0#1 := by
      rcases BitVec.eq_zero_or_eq_one (IntOp.cmpi .eq (BitVec.ofNat 32 (c.val / 64)) (BitVec.ofNat 32 h.val)) with h0 | h0
      · exact h0
      · exact absurd ((key h c).1 h0) hc
    rw [h0, if_neg hc]; rfl

/-- A score: the product over the lanes of head `h`, plus the bias. -/
theorem sc_at (q k : B4) (h : Fin 4) (b : F4) (r j : Fin 256) :
    sc q k (BitVec.ofNat 32 h.val) b (ix2 r j)
      = (∑ x : Fin 256, (if x.val / 64 = h.val then q (ix4 0 0 r x) else 0) * k (ix4 0 0 j x))
        + b (ix4 0 0 r j) := by
  pointwise [sc, qh, flat]
  simp only [lane_at, lane_sel, ite_mul, zero_mul]

/-- A row's maximum over one tile. -/
theorem mx1_at (s : F2) (r : Fin 256) (z : Fin 1) :
    mx1 s (ix2 r z) = Finset.fold max (Ideal.ofBits FTy.f32 4286578688#32) (fun x => s (ix2 r x)) Finset.univ := by
  pointwise [mx1]

/-- The maximum over three tiles, as a least upper bound. -/
theorem mx3_le (s0 s1 s2 : F2) (r : Fin 256) (b : EReal) :
    max (max (mx1 s0 (ix2 r 0)) (mx1 s1 (ix2 r 0))) (mx1 s2 (ix2 r 0)) ≤ b
      ↔ ∀ n : Fin 3 × Fin 256, (![s0, s1, s2] n.1) (ix2 r n.2) ≤ b := by
  have hb : Ideal.ofBits FTy.f32 4286578688#32 = ⊥ := by
    simp only [Ideal.ofBits, Ideal.ieee]
    rw [if_pos (by decide)]
    rfl
  rw [mx1_at, mx1_at, mx1_at, hb]
  simp only [max_le_iff, Finset.fold_max_le, bot_le, true_and, Finset.mem_univ, forall_const, Prod.forall,
    Fin.forall_fin_succ (n := 2), Fin.forall_fin_two]
  simp [and_assoc]

/-- One head's output, the three tiles taken together. -/
theorem hd_at (s0 s1 s2 : F2) (v0 v1 v2 : B4) (r c : Fin 256) :
    hd s0 s1 s2 v0 v1 v2 (ix2 r c)
      = (∑ n : Fin 3 × Fin 256, Ideal.exp2 ((![s0, s1, s2] n.1) (ix2 r n.2)
          - max (max (mx1 s0 (ix2 r 0)) (mx1 s1 (ix2 r 0))) (mx1 s2 (ix2 r 0))) * (![v0, v1, v2] n.1) (ix4 0 0 n.2 c))
        * Ideal.div 1 (∑ n : Fin 3 × Fin 256, Ideal.exp2 ((![s0, s1, s2] n.1) (ix2 r n.2)
          - max (max (mx1 s0 (ix2 r 0)) (mx1 s1 (ix2 r 0))) (mx1 s2 (ix2 r 0)))) := by
  simp only [Fintype.sum_prod_type, Fin.sum_univ_three]
  pointwise [hd, wv, dn, pw, flat, mx3]
  rfl

/-- The stored block at lane `c`: the output of head `c / 64`, times the gate. -/
theorem outV_at (q k0 k1 k2 v0 v1 v2 : B4) (b : Fin 4 → Fin 3 → F4) (g : Vec Ideal S256x256 .f32) (r c : Fin 256)
    (h : Fin 4) (hh : c.val / 64 = h.val) :
    outV q k0 k1 k2 v0 v1 v2 (b 0) (b 1) (b 2) (b 3) g (ix2 r c)
      = hd (sc q k0 (BitVec.ofNat 32 h.val) (b h 0)) (sc q k1 (BitVec.ofNat 32 h.val) (b h 1))
          (sc q k2 (BitVec.ofNat 32 h.val) (b h 2)) v0 v1 v2 (ix2 r c) * g (ix2 r c) := by
  pointwise [outV, hsel]
  simp only [lane_at]
  have e0 := fun (x y : EReal) => lane_sel (0 : Fin 4) c x y
  have e1 := fun (x y : EReal) => lane_sel (1 : Fin 4) c x y
  have e2 := fun (x y : EReal) => lane_sel (2 : Fin 4) c x y
  have e3 := fun (x y : EReal) => lane_sel (3 : Fin 4) c x y
  simp only [Fin.val_zero, Fin.val_one, Fin.val_two, show ((3 : Fin 4) : ℕ) = 3 from rfl] at e0 e1 e2 e3
  rw [e3, e2, e1, e0, hh]
  fin_cases h <;> simp

end Cert.Band

end
-- ==== Proof.BandLoad.lean ====
module

public import proofs.«01_k».proof.Proof.BandBlock
public import Idealize.ShloMosaic.Lib.Pipeline.ValueKit
public import Idealize.ShloMosaic.Lib.Pointwise

@[expose] public section

set_option maxRecDepth 16384

noncomputable section

namespace Cert.Band

open Cert.KernelIdeal Cert.KernelIdeal.Gen Idealize.ShloMosaic Idealize.ShloMosaic.TcCoe Idealize.SL.Sem
open Idealize.ShloMosaic.Pipeline (Dat)

/-- The tile a step reads its queries from. -/
theorem off1_at : ∀ t : Fin cfg0.N, k0_off1 (grid0.coords t) 1 = t.val % 16 :=
  (by decide +kernel : ∀ t : Fin grid0.N, _)

/-- The tiles a step reads its keys from: its own and the two before. -/
theorem off2_at : ∀ (t : Fin cfg0.N) (d : Fin 3), k0_off2 (grid0.coords t) (BitVec.ofNat 32 d.val) 1 = t.val % 16 - d.val :=
  (by decide +kernel : ∀ (t : Fin grid0.N) (d : Fin 3), _)

/-- The tiles a step reads its values from. -/
theorem off3_at : ∀ (t : Fin cfg0.N) (d : Fin 3), k0_off3 (grid0.coords t) (BitVec.ofNat 32 d.val) 1 = t.val % 16 - d.val :=
  (by decide +kernel : ∀ (t : Fin grid0.N) (d : Fin 3), _)

/-- The slab of the bias table a step reads for tile `d` of its band: the fourth when the tile lies before the sequence. -/
def slab (i : ℕ) (d : Fin 3) : ℕ := if 2 ≤ i + d.val then d.val else 3

theorem slab_lt (i : ℕ) (d : Fin 3) : slab i d < 4 := by
  unfold slab
  split <;> omega

theorem off4_at : ∀ (t : Fin cfg0.N) (d : Fin 3),
    k0_off4 (grid0.coords t) (k0_off4_at d).1 (k0_off4_at d).2 1 = slab (t.val % 16) d :=
  (by decide +kernel : ∀ (t : Fin grid0.N) (d : Fin 3), _)

theorem off5_at : ∀ (t : Fin cfg0.N) (d : Fin 3),
    k0_off5 (grid0.coords t) (k0_off5_at d).1 (k0_off5_at d).2 1 = slab (t.val % 16) d :=
  (by decide +kernel : ∀ (t : Fin grid0.N) (d : Fin 3), _)

theorem off6_at : ∀ (t : Fin cfg0.N) (d : Fin 3),
    k0_off6 (grid0.coords t) (k0_off6_at d).1 (k0_off6_at d).2 1 = slab (t.val % 16) d :=
  (by decide +kernel : ∀ (t : Fin grid0.N) (d : Fin 3), _)

theorem off7_at : ∀ (t : Fin cfg0.N) (d : Fin 3),
    k0_off7 (grid0.coords t) (k0_off7_at d).1 (k0_off7_at d).2 1 = slab (t.val % 16) d :=
  (by decide +kernel : ∀ (t : Fin grid0.N) (d : Fin 3), _)

/-- The query block a step reads. -/
theorem qblk_at (x0 : Vec Ideal S1x16x256x768 .bf16) (t : Fin cfg0.N) (r x : Fin 256) :
    qblk x0 (grid0.coords t) (ix4 0 0 r x) = x0 (ix4 0 ⟨t.val % 16, by omega⟩ r ⟨x.val, by omega⟩) := by
  unfold qblk
  refine View.ld_unit_apply_of _ _ _ _ _ _ fun a => ?_
  match a with
  | ⟨0, _⟩ => rfl
  | ⟨1, _⟩ => exact (off1_at t).symm
  | ⟨2, _⟩ => exact (Nat.zero_add _).symm
  | ⟨3, _⟩ => exact (Nat.zero_add _).symm

/-- The key block a step reads, `d` tiles before its own. -/
theorem kblk_at (x0 : Vec Ideal S1x16x256x768 .bf16) (t : Fin cfg0.N) (d : Fin 3) (r x : Fin 256) :
    kblk x0 (grid0.coords t) d (ix4 0 0 r x) = x0 (ix4 0 ⟨t.val % 16 - d.val, by omega⟩ r ⟨256 + x.val, by omega⟩) := by
  unfold kblk
  refine View.ld_unit_apply_of _ _ _ _ _ _ fun a => ?_
  match a with
  | ⟨0, _⟩ => rfl
  | ⟨1, _⟩ => exact (off2_at t d).symm
  | ⟨2, _⟩ => exact (Nat.zero_add _).symm
  | ⟨3, _⟩ => rfl

/-- The value block a step reads, `d` tiles before its own. -/
theorem vblk_at (x0 : Vec Ideal S1x16x256x768 .bf16) (t : Fin cfg0.N) (d : Fin 3) (r x : Fin 256) :
    vblk x0 (grid0.coords t) d (ix4 0 0 r x) = x0 (ix4 0 ⟨t.val % 16 - d.val, by omega⟩ r ⟨512 + x.val, by omega⟩) := by
  unfold vblk
  refine View.ld_unit_apply_of _ _ _ _ _ _ fun a => ?_
  match a with
  | ⟨0, _⟩ => rfl
  | ⟨1, _⟩ => exact (off3_at t d).symm
  | ⟨2, _⟩ => exact (Nat.zero_add _).symm
  | ⟨3, _⟩ => rfl

/-- The bias blocks by head. -/
def bblk (x2 : Vec Ideal S4x4x256x256 .f32) (i : grid0.Coords) : Fin 4 → Fin 3 → F4 :=
  ![bblk0 x2 i, bblk1 x2 i, bblk2 x2 i, bblk3 x2 i]

/-- The bias block head `h` reads for tile `d` of the band. -/
theorem bblk_at (x2 : Vec Ideal S4x4x256x256 .f32) (t : Fin cfg0.N) (h : Fin 4) (d : Fin 3) (r j : Fin 256) :
    bblk x2 (grid0.coords t) h d (ix4 0 0 r j) = x2 (ix4 h ⟨slab (t.val % 16) d, slab_lt _ _⟩ r j) := by
  match h with
  | ⟨0, _⟩ =>
    refine View.ld_unit_apply_of _ _ _ _ _ _ fun a => ?_
    match a with
    | ⟨0, _⟩ => rfl
    | ⟨1, _⟩ => exact (off4_at t d).symm
    | ⟨2, _⟩ => exact (Nat.zero_add _).symm
    | ⟨3, _⟩ => exact (Nat.zero_add _).symm
  | ⟨1, _⟩ =>
    refine View.ld_unit_apply_of _ _ _ _ _ _ fun a => ?_
    match a with
    | ⟨0, _⟩ => rfl
    | ⟨1, _⟩ => exact (off5_at t d).symm
    | ⟨2, _⟩ => exact (Nat.zero_add _).symm
    | ⟨3, _⟩ => exact (Nat.zero_add _).symm
  | ⟨2, _⟩ =>
    refine View.ld_unit_apply_of _ _ _ _ _ _ fun a => ?_
    match a with
    | ⟨0, _⟩ => rfl
    | ⟨1, _⟩ => exact (off6_at t d).symm
    | ⟨2, _⟩ => exact (Nat.zero_add _).symm
    | ⟨3, _⟩ => exact (Nat.zero_add _).symm
  | ⟨3, _⟩ =>
    refine View.ld_unit_apply_of _ _ _ _ _ _ fun a => ?_
    match a with
    | ⟨0, _⟩ => rfl
    | ⟨1, _⟩ => exact (off7_at t d).symm
    | ⟨2, _⟩ => exact (Nat.zero_add _).symm
    | ⟨3, _⟩ => exact (Nat.zero_add _).symm

end Cert.Band

end
-- ==== Proof.BandHost.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Band

open Cert.KernelIdeal Cert.KernelIdeal.Gen Idealize.ShloMosaic Idealize.ShloMosaic.TcCoe Idealize.SL.Sem
open Idealize.ShloMosaic.Pipeline (Dat)

/-- The host's factor `1 / log 2`. -/
def lg2 : FVec Ideal S_ .f32 := Host.divf (constant S_ .f32 0x3F800000#32) (Host.log (constant S_ .f32 0x40000000#32))

/-- Scaled queries, keys and values side by side, cut into tiles of 256 rows. -/
def qkvArr (q k v : FVec Ideal S8x4096x256 .f32) : FVec Ideal S8x16x256x768 .bf16 :=
  shapeCast S8x16x256x768 (truncf .bf16 (concatenate S8x4096x768 2
    [⟨S8x4096x256, mulf q (broadcastInDim S8x4096x256 ![] bcast_S_S8x4096x256
        (mulf (constant S_ .f32 0x3E000000#32) lg2))⟩, ⟨S8x4096x256, k⟩, ⟨S8x4096x256, v⟩]
    concatenates_S8x4096x256_S8x4096x256_S8x4096x256_S8x4096x768_d2) bitsLt_bf16_f32)
    shapeCasts_S8x4096x768_S8x16x256x768

/-- The column of the relative bias each of the 1023 offsets takes, before negative ones are wrapped. -/
def relLit : IVec S1023 32 := fun i => lit0 (S1023.rowMajor i)

/-- The same with negative columns wrapped, as the gather's start indices. -/
def relIdx : IVec S1023x1 32 :=
  broadcastInDim S1023x1 ![0] bcast_S1023_S1023x1_0
    (select (cmpi .slt relLit (broadcastInDim S1023 ![] bcast_S_S1023 (constantI S_ 32 0#32)))
      (addi relLit (broadcastInDim S1023 ![] bcast_S_S1023 (constantI S_ 32 257#32))) relLit)

/-- The bias by offset, times `1 / log 2`, with one zero at the end. -/
def biasRow (b : FVec Ideal S4x257 .f32) : FVec Ideal S4x1024 .f32 :=
  concatenate S4x1024 1
    [⟨S4x1023, mulf (Host.gather gather_S4x257_S1023x1_S4x1023_0_1_n_n_1_1_41 b relIdx)
        (broadcastInDim S4x1023 ![] bcast_S_S4x1023 lg2)⟩,
      ⟨S4x1, broadcastInDim S4x1 ![] bcast_S_S4x1 (constant S_ .f32 0x00000000#32)⟩]
    concatenates_S4x1023_S4x1_S4x1024_d1

/-- The bias row laid out along diagonals. -/
def toep (x : FVec Ideal S4x1024 .f32) : FVec Ideal S4x256x768 .f32 :=
  extractStridedSlice S4x256x768 ![0, 0, 255]
    (shapeCast S4x256x1023
      (extractStridedSlice S4x261888 ![0, 0]
        (shapeCast S4x262144
          (broadcastInDim S1x4x256x1024 ![0, 1, 2, 3] bcast_S1x4x1x1024_S1x4x256x1024_0_1_2_3
            (shapeCast S1x4x1x1024 x shapeCasts_S4x1024_S1x4x1x1024))
          shapeCasts_S1x4x256x1024_S4x262144)
        slices_S4x262144_S4x261888_0_0)
      shapeCasts_S4x261888_S4x256x1023)
    slices_S4x256x1023_S4x256x768_0_0_255

/-- Whole-number division rounded down, as the host writes it. -/
def flo {s : Shape} (h : S_.BroadcastsInDim s (![] : Fin 0 → Fin s.rank)) (x : IVec s 32) (n : IVec S_ 32) : IVec s 32 :=
  select
    (andi (cmpi .ne (signi x) (broadcastInDim s ![] h (signi n)))
      (cmpi .ne (Host.remsi x (broadcastInDim s ![] h n)) (broadcastInDim s ![] h (constantI S_ 32 0#32))))
    (subi (Host.divsi x (broadcastInDim s ![] h n)) (broadcastInDim s ![] h (constantI S_ 32 1#32)))
    (Host.divsi x (broadcastInDim s ![] h n))

/-- The difference of the query's and the key's chunk number, plus 8. -/
def gapOf (x : IVec S256x1 32) (y : IVec S1x768 32) : IVec S256x768 32 :=
  addi (subi (broadcastInDim S256x768 ![0, 1] bcast_S256x1_S256x768_0_1 x)
      (broadcastInDim S256x768 ![0, 1] bcast_S1x768_S256x768_0_1 y))
    (broadcastInDim S256x768 ![] bcast_S_S256x768 (constantI S_ 32 8#32))

/-- Which keys are seen, from the chunk numbers of queries and keys. -/
def seenOf (x : IVec S256x1 32) (y : IVec S1x768 32) : IVec S256x768 1 :=
  andi (cmpi .sge (gapOf x y) (broadcastInDim S256x768 ![] bcast_S_S256x768 (constantI S_ 32 0#32)))
    (cmpi .sle (gapOf x y) (broadcastInDim S256x768 ![] bcast_S_S256x768 (constantI S_ 32 8#32)))

/-- Which keys of the band of three tiles each query of a tile sees. -/
def seen : IVec S256x768 1 :=
  seenOf (flo bcast_S_S256x1 (broadcastInDim S256x1 ![0] bcast_S256_S256x1_0 (iotaInDim S256 32 0)) (constantI S_ 32 64#32))
    (flo bcast_S_S1x768 (broadcastInDim S1x768 ![1] bcast_S768_S1x768_1 (iotaInDim S768 32 0)) (constantI S_ 32 64#32))

/-- The bias where a key is seen, `-∞` elsewhere. -/
def band (b : FVec Ideal S4x257 .f32) : FVec Ideal S4x256x768 .f32 :=
  select (broadcastInDim S4x256x768 ![0, 1, 2] bcast_S1x256x768_S4x256x768_0_1_2
      (broadcastInDim S1x256x768 ![1, 2] bcast_S256x768_S1x256x768_1_2 seen))
    (toep (biasRow b))
    (broadcastInDim S4x256x768 ![] bcast_S_S4x256x768 (constant S_ .f32 0xFF800000#32))

/-- The three slabs of a band, and a fourth of `-∞`. -/
def slabs (x : FVec Ideal S4x256x768 .f32) : FVec Ideal S4x4x256x256 .f32 :=
  concatenate S4x4x256x256 1
    [⟨S4x1x256x256, broadcastInDim S4x1x256x256 ![0, 2, 3] bcast_S4x256x256_S4x1x256x256_0_2_3
        (extractStridedSlice S4x256x256 ![0, 0, 0] x slices_S4x256x768_S4x256x256_0_0_0)⟩,
      ⟨S4x1x256x256, broadcastInDim S4x1x256x256 ![0, 2, 3] bcast_S4x256x256_S4x1x256x256_0_2_3
        (extractStridedSlice S4x256x256 ![0, 0, 256] x slices_S4x256x768_S4x256x256_0_0_256)⟩,
      ⟨S4x1x256x256, broadcastInDim S4x1x256x256 ![0, 2, 3] bcast_S4x256x256_S4x1x256x256_0_2_3
        (extractStridedSlice S4x256x256 ![0, 0, 512] x slices_S4x256x768_S4x256x256_0_0_512)⟩,
      ⟨S4x1x256x256, broadcastInDim S4x1x256x256 ![] bcast_S_S4x1x256x256 (constant S_ .f32 0xFF800000#32)⟩]
    concatenates_S4x1x256x256_S4x1x256x256_S4x1x256x256_S4x1x256x256_S4x4x256x256_d1

/-- The bias table. -/
def tabArr (b : FVec Ideal S4x257 .f32) : FVec Ideal S4x4x256x256 .f32 := slabs (band b)

variable (m : (ℓ : Loc nD τ sig) → Buf (Elt Ideal) ℓ)

/-- The array of queries, keys and values the kernel is given. -/
theorem v7_eq (c : Dev nD) : V m c main_v7
    = qkvArr (m ((c : Thread nD τ).loc main_arg0)) (m ((c : Thread nD τ).loc main_arg1)) (m ((c : Thread nD τ).loc main_arg2)) := by
  unfold V
  simp only [hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The last stretch cuts the band into slabs. -/
theorem st6 (W : Valuation τ sig (Elt Ideal)) :
    StableHlo.after hostOps0_6 W (Proc.devRef .tc main_v52) = slabs (W (Proc.devRef .tc main_v44)) := by
  simp only [hostOps0_6, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The stretch before it masks the diagonals' bias. -/
theorem st5 (W : Valuation τ sig (Elt Ideal)) :
    StableHlo.after hostOps0_5 W (Proc.devRef .tc main_v44) = select (broadcastInDim S4x256x768 ![0, 1, 2] bcast_S1x256x768_S4x256x768_0_1_2 (W (Proc.devRef .tc main_v43))) (W (Proc.devRef .tc main_v26)) (broadcastInDim S4x256x768 ![] bcast_S_S4x256x768 (W (Proc.devRef .tc main_cst_12))) := by
  simp only [hostOps0_5, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The mask from the two columns of chunk numbers. -/
theorem st4 (W : Valuation τ sig (Elt Ideal)) :
    StableHlo.after hostOps0_4 W (Proc.devRef .tc main_v43) = broadcastInDim S1x256x768 ![1, 2] bcast_S256x768_S1x256x768_1_2 (seenOf (W (Proc.devRef .tc main_v31)) (W (Proc.devRef .tc main_v32))) := by
  simp only [hostOps0_4, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The diagonals' bias is kept. -/
theorem st4a (W : Valuation τ sig (Elt Ideal)) :
    StableHlo.after hostOps0_4 W (Proc.devRef .tc main_v26) = W (Proc.devRef .tc main_v26) := by
  simp only [hostOps0_4, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The constant `-∞`. -/
theorem st4b (W : Valuation τ sig (Elt Ideal)) :
    StableHlo.after hostOps0_4 W (Proc.devRef .tc main_cst_12) = (constant S_ .f32 0xFF800000#32 : FVec Ideal S_ .f32) := by
  simp only [hostOps0_4, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The keys' chunk numbers. -/
theorem st3 (W : Valuation τ sig (Elt Ideal)) :
    StableHlo.after hostOps0_3 W (Proc.devRef .tc main_v32) = flo bcast_S_S1x768 (W (Proc.devRef .tc main_v30)) (W (Proc.devRef .tc main_c_8)) := by
  simp only [hostOps0_3, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The diagonals' bias is kept. -/
theorem st3a (W : Valuation τ sig (Elt Ideal)) :
    StableHlo.after hostOps0_3 W (Proc.devRef .tc main_v26) = W (Proc.devRef .tc main_v26) := by
  simp only [hostOps0_3, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The queries' chunk numbers are kept. -/
theorem st3b (W : Valuation τ sig (Elt Ideal)) :
    StableHlo.after hostOps0_3 W (Proc.devRef .tc main_v31) = W (Proc.devRef .tc main_v31) := by
  simp only [hostOps0_3, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The constant 64. -/
theorem st2 (W : Valuation τ sig (Elt Ideal)) :
    StableHlo.after hostOps0_2 W (Proc.devRef .tc main_c_8) = (constantI S_ 32 64#32 : IVec S_ 32) := by
  simp only [hostOps0_2, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- A buffer the stretch keeps. -/
theorem st2a (W : Valuation τ sig (Elt Ideal)) :
    StableHlo.after hostOps0_2 W (Proc.devRef .tc main_v26) = W (Proc.devRef .tc main_v26) := by
  simp only [hostOps0_2, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- A buffer the stretch keeps. -/
theorem st2b (W : Valuation τ sig (Elt Ideal)) :
    StableHlo.after hostOps0_2 W (Proc.devRef .tc main_v31) = W (Proc.devRef .tc main_v31) := by
  simp only [hostOps0_2, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- A buffer the stretch keeps. -/
theorem st2c (W : Valuation τ sig (Elt Ideal)) :
    StableHlo.after hostOps0_2 W (Proc.devRef .tc main_v30) = W (Proc.devRef .tc main_v30) := by
  simp only [hostOps0_2, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The queries' chunk numbers. -/
theorem st1 (W : Valuation τ sig (Elt Ideal)) :
    StableHlo.after hostOps0_1 W (Proc.devRef .tc main_v31) = flo bcast_S_S256x1 (W (Proc.devRef .tc main_v28)) (W (Proc.devRef .tc main_c_7)) := by
  simp only [hostOps0_1, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- A buffer the stretch keeps. -/
theorem st1a (W : Valuation τ sig (Elt Ideal)) :
    StableHlo.after hostOps0_1 W (Proc.devRef .tc main_v26) = W (Proc.devRef .tc main_v26) := by
  simp only [hostOps0_1, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- A buffer the stretch keeps. -/
theorem st1c (W : Valuation τ sig (Elt Ideal)) :
    StableHlo.after hostOps0_1 W (Proc.devRef .tc main_v30) = W (Proc.devRef .tc main_v30) := by
  simp only [hostOps0_1, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The row numbers. -/
theorem st0 (W : Valuation τ sig (Elt Ideal)) :
    StableHlo.after hostOps0 W (Proc.devRef .tc main_v28) = broadcastInDim S256x1 ![0] bcast_S256_S256x1_0 (iotaInDim S256 32 0) := by
  simp only [hostOps0, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The key numbers. -/
theorem st0c (W : Valuation τ sig (Elt Ideal)) :
    StableHlo.after hostOps0 W (Proc.devRef .tc main_v30) = broadcastInDim S1x768 ![1] bcast_S768_S1x768_1 (iotaInDim S768 32 0) := by
  simp only [hostOps0, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The constant 64. -/
theorem st0d (W : Valuation τ sig (Elt Ideal)) :
    StableHlo.after hostOps0 W (Proc.devRef .tc main_c_7) = (constantI S_ 32 64#32 : IVec S_ 32) := by
  simp only [hostOps0, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The bias along diagonals. -/
theorem st0a (W : Valuation τ sig (Elt Ideal)) :
    StableHlo.after hostOps0 W (Proc.devRef .tc main_v26) = toep (biasRow (W (Proc.devRef .tc main_arg4))) := by
  simp only [hostOps0, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The bias table the kernel is given. -/
theorem v52_eq (c : Dev nD) : V m c main_v52 = tabArr (m ((c : Thread nD τ).loc main_arg4)) := by
  unfold V
  simp only [List.flatten_cons, List.flatten_nil, List.append_nil, StableHlo.after_append]
  refine (st6 _).trans (congrArg slabs ((st5 _).trans ?_))
  rw [st4, st4a, st4b, st3, st3a, st3b, st2, st2a, st2b, st2c, st1, st1a, st1c, st0, st0a, st0c, st0d]
  rfl

end Cert.Band

end
-- ==== Proof.BandTab.lean ====
module

public import proofs.«01_k».proof.Proof.BandHost
public import Idealize.ShloMosaic.Lib.Pipeline.ValueKit
public import Idealize.ShloMosaic.Lib.Pointwise
public import Idealize.ShloMosaic.Lib.StableHlo.Predicate

@[expose] public section

set_option maxRecDepth 16384

noncomputable section

namespace Cert.Band

open Cert.KernelIdeal Cert.KernelIdeal.Gen Idealize.ShloMosaic Idealize.ShloMosaic.TcCoe Idealize.SL.Sem
open Idealize.ShloMosaic.Pipeline (Dat)

/-- The pattern `0x40000000` is the number 2. -/
theorem two_bits : Ideal.ofBits FTy.f32 1073741824#32 = ((2 : ℝ) : EReal) := by
  simp only [Ideal.ofBits, Ideal.ieee]
  rw [if_neg (by decide), if_neg (by decide), if_neg (by decide)]
  rw [show (BitVec.extractLsb' 23 8 1073741824#32).toNat = 128 by decide,
    show (BitVec.extractLsb' 0 23 1073741824#32).toNat = 0 by decide]
  norm_num

/-- The pattern `0x3E000000` is the number 1/8. -/
theorem eighth_bits : Ideal.ofBits FTy.f32 1040187392#32 = ((1 / 8 : ℝ) : EReal) := by
  simp only [Ideal.ofBits, Ideal.ieee]
  rw [if_neg (by decide), if_neg (by decide), if_neg (by decide)]
  rw [show (BitVec.extractLsb' 23 8 1040187392#32).toNat = 124 by decide,
    show (BitVec.extractLsb' 0 23 1040187392#32).toNat = 0 by decide]
  norm_num

/-- The pattern `0xFF800000` is `-∞`. -/
theorem bot_bits : Ideal.ofBits FTy.f32 4286578688#32 = ⊥ := by
  simp only [Ideal.ofBits, Ideal.ieee]
  rw [if_pos (by decide)]
  rfl

/-- The host's factor is the real number `1 / log 2`. -/
theorem lg2_at (i : S_.Idx) : lg2 i = ((1 / Real.log 2 : ℝ) : EReal) := by
  pointwise [lg2]
  have h : Real.log 2 ≠ 0 := (Real.log_pos (by norm_num)).ne'
  rw [two_bits, Ideal.log_coe, if_neg (by norm_num), Ideal.div_coe h, one_mul]

/-- The first 256 columns are the queries times `1/8` and `1 / log 2`. -/
theorem qkv_q (q k v : FVec Ideal S8x4096x256 .f32) (b : Fin 8) (i : Fin 16) (r : Fin 256) (x : Fin 256) :
    qkvArr q k v (ix4 b i r ⟨x.val, by omega⟩)
      = q (ix3 b ⟨i.val * 256 + r.val, by omega⟩ x) * (((1 / 8 : ℝ) : EReal) * ((1 / Real.log 2 : ℝ) : EReal)) := by
  pointwise [qkvArr]
  rw [eighth_bits, lg2_at]

/-- The next 256 columns are the keys. -/
theorem qkv_k (q k v : FVec Ideal S8x4096x256 .f32) (b : Fin 8) (i : Fin 16) (r : Fin 256) (x : Fin 256) :
    qkvArr q k v (ix4 b i r ⟨256 + x.val, by omega⟩) = k (ix3 b ⟨i.val * 256 + r.val, by omega⟩ x) := by
  pointwise [qkvArr]

/-- The last 256 columns are the values. -/
theorem qkv_v (q k v : FVec Ideal S8x4096x256 .f32) (b : Fin 8) (i : Fin 16) (r : Fin 256) (x : Fin 256) :
    qkvArr q k v (ix4 b i r ⟨512 + x.val, by omega⟩) = v (ix3 b ⟨i.val * 256 + r.val, by omega⟩ x) := by
  pointwise [qkvArr]
  rw [dif_neg (by omega), dif_neg (by omega)]
  refine congrArg v (congrArg (ix3 b _) (Fin.ext ?_))
  dsimp only
  omega

/-- A query's chunk in its tile. -/
theorem flo_row (r : Fin 256) (z : Fin 1) :
    flo bcast_S_S256x1 (broadcastInDim S256x1 ![0] bcast_S256_S256x1_0 (iotaInDim S256 32 0)) (constantI S_ 32 64#32)
      (ix2 r z) = BitVec.ofNat 32 (r.val / 64) := by
  pointwise [flo]
  revert r
  decide +kernel

/-- A key's chunk in the band of three tiles. -/
theorem flo_col (r : Fin 768) (z : Fin 1) :
    flo bcast_S_S1x768 (broadcastInDim S1x768 ![1] bcast_S768_S1x768_1 (iotaInDim S768 32 0)) (constantI S_ 32 64#32)
      (ix2 z r) = BitVec.ofNat 32 (r.val / 64) := by
  pointwise [flo]
  revert r
  decide +kernel

/-- Whether a key is seen depends on the two chunk numbers alone. -/
theorem seenOf_at (x : IVec S256x1 32) (y : IVec S1x768 32) (r : Fin 256) (n : Fin 768) :
    seenOf x y (ix2 r n) = seenOf (fun _ => x (ix2 r 0)) (fun _ => y (ix2 0 n)) (ix2 0 0) := by
  pointwise [seenOf, gapOf]

/-- A key is seen when it is at most eight chunks from the band's end that belongs to the query. -/
theorem seenOf_chunks : ∀ (a : Fin 4) (e : Fin 12),
    seenOf (fun _ => BitVec.ofNat 32 a.val) (fun _ => BitVec.ofNat 32 e.val) (ix2 0 0)
      = if a.val ≤ e.val ∧ e.val ≤ a.val + 8 then 1#1 else 0#1 := by
  intro a e
  pointwise [seenOf, gapOf]
  revert a e
  decide +kernel

/-- Row `r` sees the 576 keys from `64 * (r / 64)` on. -/
theorem seen_at (r : Fin 256) (n : Fin 768) :
    seen (ix2 r n) = if 64 * (r.val / 64) ≤ n.val ∧ n.val < 64 * (r.val / 64) + 576 then 1#1 else 0#1 := by
  unfold seen
  rw [seenOf_at, flo_row, flo_col]
  refine (seenOf_chunks ⟨r.val / 64, by omega⟩ ⟨n.val / 64, by omega⟩).trans ?_
  refine if_congr ?_ rfl rfl
  show r.val / 64 ≤ n.val / 64 ∧ n.val / 64 ≤ r.val / 64 + 8 ↔ _
  omega

/-- The table of bias columns: offset `k` takes column `895 - k`, at most 256, at least 0. -/
theorem lit_at : ∀ k : Fin 1023, lit0 k = BitVec.ofNat 32 (min (895 - k.val) 256) := by
  decide +kernel

/-- The wrapped table is the same table: no column is negative. -/
theorem relIdx_at (k : Fin 1023) (z : Fin 1) : relIdx (ix2 k z) = BitVec.ofNat 32 (min (895 - k.val) 256) := by
  pointwise [relIdx, relLit]
  have h : S1023.rowMajor (ix1 k) = k := Fin.ext (Shape.rowMajor_val_one _)
  rw [h, lit_at]
  obtain ⟨p, hp⟩ : ∃ p : Fin 257, p.val = min (895 - k.val) 256 := ⟨⟨min (895 - k.val) 256, by omega⟩, rfl⟩
  rw [← hp]
  clear hp h
  revert p
  decide +kernel

/-- The bias gathered at head `h` and offset `k`. -/
theorem gather_at (b : FVec Ideal S4x257 .f32) (idx : IVec S1023x1 32) (h : Fin 4) (k : Fin 1023) (n : ℕ) (hn : n < 257)
    (he : idx (ix2 k 0) = BitVec.ofNat 32 n) :
    Host.gather gather_S4x257_S1023x1_S4x1023_0_1_n_n_1_1_41 b idx (ix2 h k) = b (ix2 h ⟨n, hn⟩) := by
  have hs : gather_S4x257_S1023x1_S4x1023_0_1_n_n_1_1_41.start (ix2 h k) idx 1
      = min (idx (ix2 k 0)).toInt.toNat (257 - 1) := by
    unfold GatherDims.start
    rw [dif_pos (show (1 : Fin 2) ∈ gather_S4x257_S1023x1_S4x1023_0_1_n_n_1_1_41.startIndexMap from List.mem_singleton.2 rfl)]
    refine congrArg (fun i => min (idx i).toInt.toNat (257 - 1)) (funext fun a => ?_)
    match a with
    | ⟨0, _⟩ => rfl
    | ⟨1, _⟩ => rfl
  unfold Host.gather
  refine congrArg b (funext fun a => Fin.ext ?_)
  match a with
  | ⟨0, _⟩ =>
    show gather_S4x257_S1023x1_S4x1023_0_1_n_n_1_1_41.start (ix2 h k) idx 0
      + gather_S4x257_S1023x1_S4x1023_0_1_n_n_1_1_41.batchCoord (ix2 h k) 0
      + gather_S4x257_S1023x1_S4x1023_0_1_n_n_1_1_41.offCoord (ix2 h k) 0 = h.val
    rw [GatherDims.batchCoord_eq_zero _ _ _ List.not_mem_nil]
    unfold GatherDims.start GatherDims.offCoord
    rw [dif_neg (by decide), dif_pos (by decide)]
    exact (Nat.zero_add _).trans rfl
  | ⟨1, _⟩ =>
    show gather_S4x257_S1023x1_S4x1023_0_1_n_n_1_1_41.start (ix2 h k) idx 1
      + gather_S4x257_S1023x1_S4x1023_0_1_n_n_1_1_41.batchCoord (ix2 h k) 1
      + gather_S4x257_S1023x1_S4x1023_0_1_n_n_1_1_41.offCoord (ix2 h k) 1 = n
    rw [GatherDims.batchCoord_eq_zero _ _ _ List.not_mem_nil, GatherDims.offCoord_eq_zero _ _ _ (by decide), hs, he,
      StableHlo.Predicate.toInt_ofNat_small n (by omega)]
    omega

/-- The bias by offset, in the scale of powers of two. -/
theorem biasRow_at (b : FVec Ideal S4x257 .f32) (h : Fin 4) (k : Fin 1023) :
    biasRow b (ix2 h ⟨k.val, by omega⟩)
      = b (ix2 h ⟨min (895 - k.val) 256, by omega⟩) * ((1 / Real.log 2 : ℝ) : EReal) := by
  pointwise [biasRow]
  rw [gather_at b relIdx h k _ (by omega) (relIdx_at k 0), lg2_at]

/-- On the diagonals, row `r` and column `n` take the entry `255 + n - r`. -/
theorem toep_at (x : FVec Ideal S4x1024 .f32) (h : Fin 4) (r : Fin 256) (n : Fin 768) :
    toep x (ix3 h r n) = x (ix2 h ⟨255 + n.val - r.val, by omega⟩) := by
  pointwise [toep]
  refine congrArg x (congrArg (ix2 h) (Fin.ext ?_))
  dsimp only
  omega

/-- The bias a row gives a column of the band, `-∞` where the key is not seen. -/
theorem band_at (b : FVec Ideal S4x257 .f32) (h : Fin 4) (r : Fin 256) (n : Fin 768) :
    band b (ix3 h r n) = if 64 * (r.val / 64) ≤ n.val ∧ n.val < 64 * (r.val / 64) + 576
      then b (ix2 h ⟨min (640 + r.val - n.val) 256, by omega⟩) * ((1 / Real.log 2 : ℝ) : EReal) else ⊥ := by
  pointwise [band]
  rw [seen_at, bot_bits, toep_at]
  have e : biasRow b (ix2 h ⟨255 + n.val - r.val, by omega⟩)
      = b (ix2 h ⟨min (640 + r.val - n.val) 256, by omega⟩) * ((1 / Real.log 2 : ℝ) : EReal) := by
    refine (biasRow_at b h ⟨255 + n.val - r.val, by omega⟩).trans ?_
    refine congrArg (fun z => b (ix2 h z) * _) (Fin.ext ?_)
    dsimp only
    omega
  rw [e]
  split <;> rfl

/-- The bias of slab `s < 3` at row `r` and column `j`. -/
theorem tab_at (b : FVec Ideal S4x257 .f32) (h : Fin 4) (s : Fin 3) (r j : Fin 256) :
    tabArr b (ix4 h ⟨s.val, by omega⟩ r j) = band b (ix3 h r ⟨256 * s.val + j.val, by omega⟩) := by
  unfold tabArr
  generalize band b = x
  fin_cases s
  all_goals pointwise [slabs]

/-- The fourth slab is `-∞`. -/
theorem tab_out (b : FVec Ideal S4x257 .f32) (h : Fin 4) (r j : Fin 256) : tabArr b (ix4 h 3 r j) = ⊥ := by
  unfold tabArr
  generalize band b = x
  pointwise [slabs]
  exact bot_bits

end Cert.Band

end
-- ==== Proof.BandRef.lean ====
module

public import proofs.«01_k».proof.Proof.Gen.ReferenceIdeal.Read
public import Idealize.ShloMosaic.Lib.Pipeline.ValueKit
public import Idealize.ShloMosaic.Lib.Pointwise
public import Idealize.ShloMosaic.Lib.StableHlo.Predicate
public import proofs.«01_k».proof.Proof.BandTab

@[expose] public section

set_option maxRecDepth 16384

noncomputable section

namespace Cert.Band

open Cert.ReferenceIdeal Cert.ReferenceIdeal.Gen Idealize.ShloMosaic Idealize.ShloMosaic.TcCoe Idealize.SL.Sem
open Idealize.ShloMosaic.Pipeline (Dat)

open Cert.ReferenceIdeal.Read

/-- The value the reference's padding takes is zero. -/
theorem padk_at (i : S_.Idx) : val_main_call0_v0 (F := Ideal) i = 0 := by
  pointwise [val_main_call0_v0, val_main_c]
  show (((0#32 : BitVec 32).toInt : ℝ) : EReal) = 0
  simp

/-- The value the reference's padding takes is zero. -/
theorem padv_at (i : S_.Idx) : val_main_call1_v0 (F := Ideal) i = 0 := by
  pointwise [val_main_call1_v0, val_main_c_0]
  show (((0#32 : BitVec 32).toInt : ℝ) : EReal) = 0
  simp

/-- Equal chunk and row numbers give the same element. -/
theorem at_congr (f : FVec Ideal S8x72x64x4x64 .f32) {b : Fin 8} {P P' : Fin 72} {k k' : Fin 64} {h : Fin 4} {d : Fin 64}
    (hP : P = P') (hk : k = k') : f (ix5 b P k h d) = f (ix5 b P' k' h d) := by
  rw [hP, hk]

/-- The padded key: eight chunks of zeros, then the sequence. -/
theorem keypad_at (x1 : FVec Ideal S8x4096x256 .f32) (b : Fin 8) (P : Fin 72) (kk : Fin 64) (h : Fin 4) (d : Fin 64) :
    val_main_v5 (F := Ideal) x1 (ix5 b P kk h d)
      = if 8 ≤ P.val then x1 (ix3 b ⟨64 * P.val + kk.val - 512, by omega⟩ ⟨h.val * 64 + d.val, by omega⟩) else 0 := by
  pointwise [val_main_v5, val_main_v4, val_main_v1]
  rw [padk_at]
  split_ifs
  · refine congrArg (fun z => x1 (ix3 b z _)) (Fin.ext ?_)
    dsimp only
    omega
  · exfalso; omega
  · exfalso; omega
  · rfl

set_option maxHeartbeats 2000000 in
/-- Entry `64 * p + k` of a chunk's nine joined chunks is entry `k` of the padded chunk `C + p`. -/
theorem keycat_at (x1 : FVec Ideal S8x4096x256 .f32) (b : Fin 8) (C : Fin 64) (p : Fin 9) (kk : Fin 64) (h : Fin 4) (d : Fin 64) :
    val_main_v17 (F := Ideal) x1 (ix5 b C ⟨64 * p.val + kk.val, by omega⟩ h d)
      = val_main_v5 (F := Ideal) x1 (ix5 b ⟨C.val + p.val, by omega⟩ kk h d) := by
  match p with
  | ⟨0, _⟩ =>
    pointwise [val_main_v17, val_main_v8]
    repeat rw [dif_neg (by omega)]
    try rw [dif_pos (by omega)]
  | ⟨1, _⟩ =>
    pointwise [val_main_v17, val_main_v9]
    repeat rw [dif_neg (by omega)]
    try rw [dif_pos (by omega)]
    refine at_congr _ (Fin.ext ?_) (Fin.ext ?_)
    all_goals first
      | rfl
      | (dsimp only; omega)
  | ⟨2, _⟩ =>
    pointwise [val_main_v17, val_main_v10]
    repeat rw [dif_neg (by omega)]
    try rw [dif_pos (by omega)]
    refine at_congr _ (Fin.ext ?_) (Fin.ext ?_)
    all_goals first
      | rfl
      | (dsimp only; omega)
  | ⟨3, _⟩ =>
    pointwise [val_main_v17, val_main_v11]
    repeat rw [dif_neg (by omega)]
    try rw [dif_pos (by omega)]
    refine at_congr _ (Fin.ext ?_) (Fin.ext ?_)
    all_goals first
      | rfl
      | (dsimp only; omega)
  | ⟨4, _⟩ =>
    pointwise [val_main_v17, val_main_v12]
    repeat rw [dif_neg (by omega)]
    try rw [dif_pos (by omega)]
    refine at_congr _ (Fin.ext ?_) (Fin.ext ?_)
    all_goals first
      | rfl
      | (dsimp only; omega)
  | ⟨5, _⟩ =>
    pointwise [val_main_v17, val_main_v13]
    repeat rw [dif_neg (by omega)]
    try rw [dif_pos (by omega)]
    refine at_congr _ (Fin.ext ?_) (Fin.ext ?_)
    all_goals first
      | rfl
      | (dsimp only; omega)
  | ⟨6, _⟩ =>
    pointwise [val_main_v17, val_main_v14]
    repeat rw [dif_neg (by omega)]
    try rw [dif_pos (by omega)]
    refine at_congr _ (Fin.ext ?_) (Fin.ext ?_)
    all_goals first
      | rfl
      | (dsimp only; omega)
  | ⟨7, _⟩ =>
    pointwise [val_main_v17, val_main_v15]
    repeat rw [dif_neg (by omega)]
    try rw [dif_pos (by omega)]
    refine at_congr _ (Fin.ext ?_) (Fin.ext ?_)
    all_goals first
      | rfl
      | (dsimp only; omega)
  | ⟨8, _⟩ =>
    pointwise [val_main_v17, val_main_v16]
    repeat rw [dif_neg (by omega)]
    try rw [dif_pos (by omega)]
    refine at_congr _ (Fin.ext ?_) (Fin.ext ?_)
    all_goals first
      | rfl
      | (dsimp only; omega)

/-- Key `x` of chunk `C`: row `64 * C + x - 512`, zero in front of the sequence. -/
theorem key_at (x1 : FVec Ideal S8x4096x256 .f32) (b : Fin 8) (C : Fin 64) (x : Fin 576) (h : Fin 4) (d : Fin 64) :
    val_main_v17 (F := Ideal) x1 (ix5 b C x h d)
      = if 8 ≤ C.val + x.val / 64 then x1 (ix3 b ⟨64 * C.val + x.val - 512, by omega⟩ ⟨h.val * 64 + d.val, by omega⟩)
        else 0 := by
  have hx : x = ⟨64 * (⟨x.val / 64, by omega⟩ : Fin 9).val + (⟨x.val % 64, by omega⟩ : Fin 64).val, by dsimp only; omega⟩ :=
    Fin.ext (by dsimp only; omega)
  have e := keycat_at x1 b C ⟨x.val / 64, by omega⟩ ⟨x.val % 64, by omega⟩ h d
  rw [← hx] at e
  rw [e, keypad_at]
  refine if_congr Iff.rfl (congrArg (fun z => x1 (ix3 b z _)) (Fin.ext ?_)) rfl
  dsimp only
  omega

/-- The padded value: eight chunks of zeros, then the sequence. -/
theorem valuepad_at (x2 : FVec Ideal S8x4096x256 .f32) (b : Fin 8) (P : Fin 72) (kk : Fin 64) (h : Fin 4) (d : Fin 64) :
    val_main_v7 (F := Ideal) x2 (ix5 b P kk h d)
      = if 8 ≤ P.val then x2 (ix3 b ⟨64 * P.val + kk.val - 512, by omega⟩ ⟨h.val * 64 + d.val, by omega⟩) else 0 := by
  pointwise [val_main_v7, val_main_v6, val_main_v2]
  rw [padv_at]
  split_ifs
  · refine congrArg (fun z => x2 (ix3 b z _)) (Fin.ext ?_)
    dsimp only
    omega
  · exfalso; omega
  · exfalso; omega
  · rfl

set_option maxHeartbeats 2000000 in
/-- Entry `64 * p + k` of a chunk's nine joined chunks is entry `k` of the padded chunk `C + p`. -/
theorem valuecat_at (x2 : FVec Ideal S8x4096x256 .f32) (b : Fin 8) (C : Fin 64) (p : Fin 9) (kk : Fin 64) (h : Fin 4) (d : Fin 64) :
    val_main_v27 (F := Ideal) x2 (ix5 b C ⟨64 * p.val + kk.val, by omega⟩ h d)
      = val_main_v7 (F := Ideal) x2 (ix5 b ⟨C.val + p.val, by omega⟩ kk h d) := by
  match p with
  | ⟨0, _⟩ =>
    pointwise [val_main_v27, val_main_v18]
    repeat rw [dif_neg (by omega)]
    try rw [dif_pos (by omega)]
  | ⟨1, _⟩ =>
    pointwise [val_main_v27, val_main_v19]
    repeat rw [dif_neg (by omega)]
    try rw [dif_pos (by omega)]
    refine at_congr _ (Fin.ext ?_) (Fin.ext ?_)
    all_goals first
      | rfl
      | (dsimp only; omega)
  | ⟨2, _⟩ =>
    pointwise [val_main_v27, val_main_v20]
    repeat rw [dif_neg (by omega)]
    try rw [dif_pos (by omega)]
    refine at_congr _ (Fin.ext ?_) (Fin.ext ?_)
    all_goals first
      | rfl
      | (dsimp only; omega)
  | ⟨3, _⟩ =>
    pointwise [val_main_v27, val_main_v21]
    repeat rw [dif_neg (by omega)]
    try rw [dif_pos (by omega)]
    refine at_congr _ (Fin.ext ?_) (Fin.ext ?_)
    all_goals first
      | rfl
      | (dsimp only; omega)
  | ⟨4, _⟩ =>
    pointwise [val_main_v27, val_main_v22]
    repeat rw [dif_neg (by omega)]
    try rw [dif_pos (by omega)]
    refine at_congr _ (Fin.ext ?_) (Fin.ext ?_)
    all_goals first
      | rfl
      | (dsimp only; omega)
  | ⟨5, _⟩ =>
    pointwise [val_main_v27, val_main_v23]
    repeat rw [dif_neg (by omega)]
    try rw [dif_pos (by omega)]
    refine at_congr _ (Fin.ext ?_) (Fin.ext ?_)
    all_goals first
      | rfl
      | (dsimp only; omega)
  | ⟨6, _⟩ =>
    pointwise [val_main_v27, val_main_v24]
    repeat rw [dif_neg (by omega)]
    try rw [dif_pos (by omega)]
    refine at_congr _ (Fin.ext ?_) (Fin.ext ?_)
    all_goals first
      | rfl
      | (dsimp only; omega)
  | ⟨7, _⟩ =>
    pointwise [val_main_v27, val_main_v25]
    repeat rw [dif_neg (by omega)]
    try rw [dif_pos (by omega)]
    refine at_congr _ (Fin.ext ?_) (Fin.ext ?_)
    all_goals first
      | rfl
      | (dsimp only; omega)
  | ⟨8, _⟩ =>
    pointwise [val_main_v27, val_main_v26]
    repeat rw [dif_neg (by omega)]
    try rw [dif_pos (by omega)]
    refine at_congr _ (Fin.ext ?_) (Fin.ext ?_)
    all_goals first
      | rfl
      | (dsimp only; omega)

/-- Value `x` of chunk `C`: row `64 * C + x - 512`, zero in front of the sequence. -/
theorem value_at (x2 : FVec Ideal S8x4096x256 .f32) (b : Fin 8) (C : Fin 64) (x : Fin 576) (h : Fin 4) (d : Fin 64) :
    val_main_v27 (F := Ideal) x2 (ix5 b C x h d)
      = if 8 ≤ C.val + x.val / 64 then x2 (ix3 b ⟨64 * C.val + x.val - 512, by omega⟩ ⟨h.val * 64 + d.val, by omega⟩)
        else 0 := by
  have hx : x = ⟨64 * (⟨x.val / 64, by omega⟩ : Fin 9).val + (⟨x.val % 64, by omega⟩ : Fin 64).val, by dsimp only; omega⟩ :=
    Fin.ext (by dsimp only; omega)
  have e := valuecat_at x2 b C ⟨x.val / 64, by omega⟩ ⟨x.val % 64, by omega⟩ h d
  rw [← hx] at e
  rw [e, valuepad_at]
  refine if_congr Iff.rfl (congrArg (fun z => x2 (ix3 b z _)) (Fin.ext ?_)) rfl
  dsimp only
  omega

/-- The product of a query and a key over the lanes of a head. -/
theorem dot_at (x0 x1 : FVec Ideal S8x4096x256 .f32) (b : Fin 8) (C : Fin 64) (h : Fin 4) (r : Fin 64) (x : Fin 576) :
    val_main_v28 (F := Ideal) x0 x1 (ix5 b C h r x)
      = ∑ d : Fin 64, x0 (ix3 b ⟨C.val * 64 + r.val, by omega⟩ ⟨h.val * 64 + d.val, by omega⟩)
          * val_main_v17 (F := Ideal) x1 (ix5 b C x h d) := by
  pointwise [val_main_v28, val_main_v3, val_main_v0]

/-- The bias column of query `r` and key `x`. -/
theorem col_at (r : Fin 64) (x : Fin 576) (z : Fin 1) :
    val_main_v48 (F := Ideal) (ix3 r x z) = BitVec.ofNat 32 (min (640 + r.val - x.val) 256) := by
  pointwise [val_main_v48, val_main_v47, val_main_v46, val_main_v45, val_main_v44, val_main_v43, val_main_v42, val_main_v41,
    val_main_v40, val_main_v39, val_main_v38, val_main_v37, val_main_v36, val_main_v35, val_main_v34, val_main_v33,
    val_main_v32, val_main_v31, val_main_c_1, val_main_c_2, val_main_c_3, val_main_c_4, val_main_c_5, val_main_c_6,
    val_main_call2_v0, val_main_call2_v1, val_main_call2_v2, val_main_call2_v3, val_main_call2_v4]
  obtain ⟨p, hp⟩ : ∃ p : Fin 639, p.val = 575 + r.val - x.val := ⟨⟨575 + r.val - x.val, by omega⟩, rfl⟩
  have e : IntOp.subi (IntOp.addi (BitVec.ofNat 32 r.val) 512#32) (BitVec.ofNat 32 x.val) = BitVec.ofNat 32 p.val - 63#32 := by
    rw [hp]
    show BitVec.ofNat 32 r.val + 512#32 - BitVec.ofNat 32 x.val = _
    apply BitVec.eq_of_toNat_eq
    simp only [BitVec.toNat_sub, BitVec.toNat_add, BitVec.toNat_ofNat]
    omega
  have e2 : min (640 + r.val - x.val) 256 = min (p.val + 65) 256 := by omega
  rw [e, e2]
  clear e e2 hp
  revert p
  decide +kernel

/-- A key's chunk among the nine. -/
theorem chunk_at (z : Fin 1) (x : Fin 576) : val_main_v55 (F := Ideal) (ix2 z x) = BitVec.ofNat 32 (x.val / 64) := by
  pointwise [val_main_v55, val_main_v54, val_main_v32, val_main_c_8, val_main_call3_v0, val_main_call3_v1, val_main_call3_v2,
    val_main_call3_v3, val_main_call3_v4, val_main_call3_v5, val_main_call3_v6, val_main_call3_v7, val_main_call3_v8,
    val_main_call3_v9, val_main_call3_v10, val_main_call3_v11, val_main_call3_v12, val_main_call3_v13, val_main_call3_c,
    val_main_call3_c_0]
  revert x
  decide +kernel

/-- Key `x` of chunk `C` is inside the sequence. -/
theorem mask_at (C : Fin 64) (x : Fin 576) :
    val_main_v60 (F := Ideal) (ix2 C x) = if 8 ≤ C.val + x.val / 64 then 1#1 else 0#1 := by
  pointwise [val_main_v60, val_main_v59, val_main_v58, val_main_v57, val_main_v56, val_main_v53, val_main_v52, val_main_v51,
    val_main_v50, val_main_c_7, val_main_c_9]
  rw [chunk_at]
  obtain ⟨p, hp⟩ : ∃ p : Fin 9, p.val = x.val / 64 := ⟨⟨x.val / 64, by omega⟩, rfl⟩
  rw [← hp]
  clear hp
  revert C p
  decide +kernel

/-- The gathered bias. -/
theorem rgather_at (x : FVec Ideal S4x257 .f32) (idx : IVec S64x576x1 32) (h : Fin 4) (r : Fin 64) (k : Fin 576) (n : ℕ)
    (hn : n < 257) (he : idx (ix3 r k 0) = BitVec.ofNat 32 n) :
    Host.gather gather_S4x257_S64x576x1_S4x64x576_0_1_n_n_1_2_41 x idx (ix3 h r k) = x (ix2 h ⟨n, hn⟩) := by
  have hs : gather_S4x257_S64x576x1_S4x64x576_0_1_n_n_1_2_41.start (ix3 h r k) idx 1
      = min (idx (ix3 r k 0)).toInt.toNat (257 - 1) := by
    unfold GatherDims.start
    rw [dif_pos (show (1 : Fin 2) ∈ gather_S4x257_S64x576x1_S4x64x576_0_1_n_n_1_2_41.startIndexMap from List.mem_singleton.2 rfl)]
    refine congrArg (fun i => min (idx i).toInt.toNat (257 - 1)) (funext fun a => ?_)
    match a with
    | ⟨0, _⟩ => rfl
    | ⟨1, _⟩ => rfl
    | ⟨2, _⟩ => rfl
  unfold Host.gather
  refine congrArg x (funext fun a => Fin.ext ?_)
  match a with
  | ⟨0, _⟩ =>
    show gather_S4x257_S64x576x1_S4x64x576_0_1_n_n_1_2_41.start (ix3 h r k) idx 0
      + gather_S4x257_S64x576x1_S4x64x576_0_1_n_n_1_2_41.batchCoord (ix3 h r k) 0
      + gather_S4x257_S64x576x1_S4x64x576_0_1_n_n_1_2_41.offCoord (ix3 h r k) 0 = h.val
    rw [GatherDims.batchCoord_eq_zero _ _ _ List.not_mem_nil]
    unfold GatherDims.start GatherDims.offCoord
    rw [dif_neg (by decide), dif_pos (by decide)]
    exact (Nat.zero_add _).trans rfl
  | ⟨1, _⟩ =>
    show gather_S4x257_S64x576x1_S4x64x576_0_1_n_n_1_2_41.start (ix3 h r k) idx 1
      + gather_S4x257_S64x576x1_S4x64x576_0_1_n_n_1_2_41.batchCoord (ix3 h r k) 1
      + gather_S4x257_S64x576x1_S4x64x576_0_1_n_n_1_2_41.offCoord (ix3 h r k) 1 = n
    rw [GatherDims.batchCoord_eq_zero _ _ _ List.not_mem_nil, GatherDims.offCoord_eq_zero _ _ _ (by decide), hs, he,
      StableHlo.Predicate.toInt_ofNat_small n (by omega)]
    omega

/-- A score of the reference: `-∞` in front of the sequence. -/
theorem score_at (x0 x1 : FVec Ideal S8x4096x256 .f32) (x4 : FVec Ideal S4x257 .f32) (b : Fin 8) (C : Fin 64) (h : Fin 4)
    (r : Fin 64) (x : Fin 576) :
    val_main_v65 (F := Ideal) x0 x1 x4 (ix5 b C h r x)
      = if 8 ≤ C.val + x.val / 64 then
          (∑ d : Fin 64, x0 (ix3 b ⟨C.val * 64 + r.val, by omega⟩ ⟨h.val * 64 + d.val, by omega⟩)
            * x1 (ix3 b ⟨64 * C.val + x.val - 512, by omega⟩ ⟨h.val * 64 + d.val, by omega⟩)) * ((1 / 8 : ℝ) : EReal)
            + x4 (ix2 h ⟨min (640 + r.val - x.val) 256, by omega⟩)
        else ⊥ := by
  pointwise [val_main_v65, val_main_v64, val_main_v63, val_main_v62, val_main_v61, val_main_v30, val_main_v29, val_main_cst,
    val_main_call4_v0, val_main_call4_v1, val_main_call4_v2, val_main_cst_10]
  rw [mask_at, dot_at, eighth_bits]
  have hg : val_main_v49 (F := Ideal) x4 (ix3 h r x) = x4 (ix2 h ⟨min (640 + r.val - x.val) 256, by omega⟩) :=
    rgather_at x4 _ h r x _ (by omega) (col_at r x 0)
  rw [hg]
  split_ifs with hc
  · refine congrArg₂ (· + ·) (congrArg (· * _) (Finset.sum_congr rfl fun d _ => ?_)) rfl
    rw [key_at, if_pos hc]
  · exact bot_bits

/-- A maximum over a row's 576 keys. -/
theorem reduce_at (X : FVec Ideal S8x64x4x64x576 .f32) (b : Fin 8) (C : Fin 64) (h : Fin 4) (r : Fin 64) :
    (Host.reduce (FloatOps.maximumf (F := Ideal) (φ := .f32)) X (constant S_ .f32 0xFF800000#32)
      reducesTo_S8x64x4x64x576_S8x64x4x64_d4 h_S_) (ix4 b C h r)
      = Finset.fold max (Ideal.ofBits FTy.f32 4286578688#32) (fun x => X (ix5 b C h r x)) Finset.univ := by
  pointwise []

/-- The maximum over the keys of a query's scores. -/
theorem top_at (x0 x1 : FVec Ideal S8x4096x256 .f32) (x4 : FVec Ideal S4x257 .f32) (b : Fin 8) (C : Fin 64) (h : Fin 4)
    (r : Fin 64) :
    val_main_v66 (F := Ideal) x0 x1 x4 (ix4 b C h r)
      = Finset.fold max (Ideal.ofBits FTy.f32 4286578688#32) (fun x => val_main_v65 (F := Ideal) x0 x1 x4 (ix5 b C h r x))
        Finset.univ := by
  unfold val_main_v66 val_main_cst_11
  generalize val_main_v65 (F := Ideal) x0 x1 x4 = X
  exact reduce_at X b C h r

/-- The maximum the reference subtracts: that one, and at least `-∞`. -/
theorem sub_at (x0 x1 : FVec Ideal S8x4096x256 .f32) (x4 : FVec Ideal S4x257 .f32) (b : Fin 8) (C : Fin 64) (h : Fin 4)
    (r : Fin 64) :
    val_main_v68 (F := Ideal) x0 x1 x4 (ix4 b C h r)
      = max (Ideal.ofBits FTy.f32 4286578688#32) (val_main_v66 (F := Ideal) x0 x1 x4 (ix4 b C h r)) := by
  rw [val_main_v68_apply, val_main_v67_apply, val_main_cst_12_apply]; rfl

/-- The reference's row maximum, as a least upper bound. -/
theorem max_le (x0 x1 : FVec Ideal S8x4096x256 .f32) (x4 : FVec Ideal S4x257 .f32) (b : Fin 8) (C : Fin 64) (h : Fin 4)
    (r : Fin 64) (u : EReal) :
    val_main_v68 (F := Ideal) x0 x1 x4 (ix4 b C h r) ≤ u ↔ ∀ x, val_main_v65 (F := Ideal) x0 x1 x4 (ix5 b C h r x) ≤ u := by
  rw [sub_at, top_at]
  generalize val_main_v65 (F := Ideal) x0 x1 x4 = X
  rw [bot_bits, max_le_iff, Finset.fold_max_le]
  simp

/-- A probability of the reference. -/
theorem prob_at (x0 x1 : FVec Ideal S8x4096x256 .f32) (x4 : FVec Ideal S4x257 .f32) (b : Fin 8) (C : Fin 64) (h : Fin 4)
    (r : Fin 64) (x : Fin 576) :
    val_main_v76 (F := Ideal) x0 x1 x4 (ix5 b C h r x)
      = Ideal.div (Ideal.exp (val_main_v65 (F := Ideal) x0 x1 x4 (ix5 b C h r x) - val_main_v68 (F := Ideal) x0 x1 x4 (ix4 b C h r)))
        (∑ y, Ideal.exp (val_main_v65 (F := Ideal) x0 x1 x4 (ix5 b C h r y) - val_main_v68 (F := Ideal) x0 x1 x4 (ix4 b C h r))) := by
  pointwise [val_main_v76, val_main_v75, val_main_v74, val_main_v73, val_main_v72, val_main_v71, val_main_v70, val_main_v69,
    val_main_cst_13]

/-- The reference's result at row `R` and column `c`. -/
theorem ref_at (x0 x1 x2 : FVec Ideal S8x4096x256 .f32) (x3 : FVec Ideal S32768x1024 .f32) (x4 : FVec Ideal S4x257 .f32)
    (R : Fin 32768) (c : Fin 256) :
    val_main_v83 (F := Ideal) x0 x1 x2 x3 x4 (ix2 R c)
      = (∑ x, val_main_v76 (F := Ideal) x0 x1 x4
            (ix5 ⟨R.val / 4096, by omega⟩ ⟨R.val / 64 % 64, by omega⟩ ⟨c.val / 64, by omega⟩ ⟨R.val % 64, by omega⟩ x)
          * val_main_v27 (F := Ideal) x2
            (ix5 ⟨R.val / 4096, by omega⟩ ⟨R.val / 64 % 64, by omega⟩ x ⟨c.val / 64, by omega⟩ ⟨c.val % 64, by omega⟩))
        * x3 (ix2 R ⟨256 + c.val, by omega⟩) := by
  pointwise [val_main_v83, val_main_v82, val_main_v81, val_main_v80, val_main_v79, val_main_v78, val_main_v77]
  refine congrArg (· * _) (Finset.sum_congr rfl fun x _ => mul_comm _ _)

end Cert.Band

end
-- ==== Proof.BandEq.lean ====
module

public import proofs.«01_k».proof.Proof.BandMath
public import proofs.«01_k».proof.Proof.BandRead
public import proofs.«01_k».proof.Proof.BandLoad
public import proofs.«01_k».proof.Proof.BandTab
public import proofs.«01_k».proof.Proof.BandRef
public import Idealize.ShloMosaic.Lib.Pipeline.ValueKit
public import Idealize.ShloMosaic.Lib.Pointwise

@[expose] public section

set_option maxRecDepth 16384

noncomputable section

namespace Cert.Band

open Cert.KernelIdeal Cert.KernelIdeal.Gen Idealize.ShloMosaic Idealize.ShloMosaic.TcCoe Idealize.SL.Sem
open Idealize.ShloMosaic.Pipeline (Dat)

open Cert.ReferenceIdeal.Read

/-- The lanes of one head, summed. -/
theorem head_sum (f : Fin 256 → EReal) (h : Fin 4) :
    (∑ x : Fin 256, if x.val / 64 = h.val then f x else 0) = ∑ d : Fin 64, f ⟨h.val * 64 + d.val, by omega⟩ := by
  rw [← Finset.sum_filter]
  refine (Finset.sum_bij (fun (d : Fin 64) _ => (⟨h.val * 64 + d.val, by omega⟩ : Fin 256)) ?_ ?_ ?_ ?_).symm
  · intro d _
    simp only [Finset.mem_filter, Finset.mem_univ, true_and]
    omega
  · intro d _ d' _ e
    have := congrArg Fin.val e
    exact Fin.ext (by dsimp only at this; omega)
  · intro x hx
    have hx' := (Finset.mem_filter.1 hx).2
    exact ⟨⟨x.val % 64, by omega⟩, Finset.mem_univ _, Fin.ext (by dsimp only; omega)⟩
  · intro d _
    rfl

/-- Scaling queries and bias by `L` scales the score by `L`. -/
theorem score_scale (q k : Fin 64 → ℝ) (b L : ℝ) :
    (∑ d, (q d : EReal) * (((1 / 8 : ℝ) : EReal) * (L : EReal)) * (k d : EReal)) + (b : EReal) * (L : EReal)
      = (L : EReal) * ((∑ d, (q d : EReal) * (k d : EReal)) * ((1 / 8 : ℝ) : EReal) + (b : EReal)) := by
  simp only [← EReal.coe_mul, ← coe_sum, ← EReal.coe_add]
  congr 1
  rw [mul_add, Finset.sum_mul, Finset.mul_sum]
  refine congrArg₂ (· + ·) (Finset.sum_congr rfl fun d _ => ?_) ?_ <;> ring

variable (q k v : FVec Ideal S8x4096x256 .f32) (g : FVec Ideal S32768x1024 .f32) (bt : FVec Ideal S4x257 .f32)

/-- The kernel's scores over the band of three tiles. -/
def kscore (x0 : Vec Ideal S1x16x256x768 .bf16) (x2 : Vec Ideal S4x4x256x256 .f32) (i : grid0.Coords) (h : Fin 4) : Fin 3 → F2 :=
  ![sc (qblk x0 i) (kblk x0 i 2) (BitVec.ofNat 32 h.val) (bblk x2 i h 0),
    sc (qblk x0 i) (kblk x0 i 1) (BitVec.ofNat 32 h.val) (bblk x2 i h 1),
    sc (qblk x0 i) (kblk x0 i 0) (BitVec.ofNat 32 h.val) (bblk x2 i h 2)]

/-- The kernel's values over the band of three tiles. -/
def kvals (x0 : Vec Ideal S1x16x256x768 .bf16) (i : grid0.Coords) : Fin 3 → B4 :=
  ![vblk x0 i 2, vblk x0 i 1, vblk x0 i 0]

/-- The bias of the band at tile `u` and column `j`, `-∞` in front of the sequence. -/
theorem bias_at (t : Fin cfg0.N) (h : Fin 4) (u : Fin 3) (r j : Fin 256) :
    bblk (tabArr bt) (grid0.coords t) h u (ix4 0 0 r j)
      = if 2 ≤ t.val % 16 + u.val ∧ 64 * (r.val / 64) ≤ 256 * u.val + j.val ∧ 256 * u.val + j.val < 64 * (r.val / 64) + 576
        then bt (ix2 h ⟨min (640 + r.val - (256 * u.val + j.val)) 256, by omega⟩) * ((1 / Real.log 2 : ℝ) : EReal) else ⊥ := by
  rw [bblk_at]
  by_cases hu : 2 ≤ t.val % 16 + u.val
  · have e : (⟨slab (t.val % 16) u, slab_lt _ _⟩ : Fin 4) = ⟨u.val, by omega⟩ := Fin.ext (if_pos hu)
    rw [e, tab_at, band_at]
    simp only [hu, true_and]
  · have e : (⟨slab (t.val % 16) u, slab_lt _ _⟩ : Fin 4) = 3 := Fin.ext (if_neg hu)
    rw [e, tab_out, if_neg (fun hc => hu hc.1)]

/-- A score of the kernel, from the arrays. -/
theorem kscore_at (x0 : Vec Ideal S1x16x256x768 .bf16) (b : Fin 8)
    (hx0 : ∀ i r x, x0 (ix4 0 i r x) = qkvArr q k v (ix4 b i r x)) (t : Fin cfg0.N) (h : Fin 4) (u : Fin 3) (r j : Fin 256) :
    kscore x0 (tabArr bt) (grid0.coords t) h u (ix2 r j)
      = (∑ d : Fin 64, q (ix3 b ⟨(t.val % 16) * 256 + r.val, by omega⟩ ⟨h.val * 64 + d.val, by omega⟩)
            * (((1 / 8 : ℝ) : EReal) * ((1 / Real.log 2 : ℝ) : EReal))
            * k (ix3 b ⟨(t.val % 16 - (2 - u.val)) * 256 + j.val, by omega⟩ ⟨h.val * 64 + d.val, by omega⟩))
        + if 2 ≤ t.val % 16 + u.val ∧ 64 * (r.val / 64) ≤ 256 * u.val + j.val ∧ 256 * u.val + j.val < 64 * (r.val / 64) + 576
          then bt (ix2 h ⟨min (640 + r.val - (256 * u.val + j.val)) 256, by omega⟩) * ((1 / Real.log 2 : ℝ) : EReal) else ⊥ := by
  have key : ∀ (d : Fin 3), d.val = 2 - u.val → ∀ z, z = sc (qblk x0 (grid0.coords t)) (kblk x0 (grid0.coords t) d)
      (BitVec.ofNat 32 h.val) (bblk (tabArr bt) (grid0.coords t) h u) (ix2 r j) → z
      = (∑ d : Fin 64, q (ix3 b ⟨(t.val % 16) * 256 + r.val, by omega⟩ ⟨h.val * 64 + d.val, by omega⟩)
            * (((1 / 8 : ℝ) : EReal) * ((1 / Real.log 2 : ℝ) : EReal))
            * k (ix3 b ⟨(t.val % 16 - (2 - u.val)) * 256 + j.val, by omega⟩ ⟨h.val * 64 + d.val, by omega⟩))
        + if 2 ≤ t.val % 16 + u.val ∧ 64 * (r.val / 64) ≤ 256 * u.val + j.val ∧ 256 * u.val + j.val < 64 * (r.val / 64) + 576
          then bt (ix2 h ⟨min (640 + r.val - (256 * u.val + j.val)) 256, by omega⟩) * ((1 / Real.log 2 : ℝ) : EReal) else ⊥ := by
    intro d hd z hz
    rw [hz]
    rw [sc_at, bias_at]
    refine congrArg (· + _) ?_
    simp only [ite_mul, zero_mul]
    rw [head_sum]
    refine Finset.sum_congr rfl fun y _ => ?_
    rw [qblk_at, kblk_at, hx0, hx0, qkv_q, qkv_k]
    refine congrArg (fun z => _ * k (ix3 b z _)) (Fin.ext ?_)
    dsimp only
    rw [hd]
  match u, key with
  | ⟨0, _⟩, key => exact key 2 rfl _ rfl
  | ⟨1, _⟩, key => exact key 1 rfl _ rfl
  | ⟨2, _⟩, key => exact key 0 rfl _ rfl

/-- A value of the kernel, from the arrays. -/
theorem kvals_at (x0 : Vec Ideal S1x16x256x768 .bf16) (b : Fin 8)
    (hx0 : ∀ i r x, x0 (ix4 0 i r x) = qkvArr q k v (ix4 b i r x)) (t : Fin cfg0.N) (u : Fin 3) (j c : Fin 256) :
    kvals x0 (grid0.coords t) u (ix4 0 0 j c) = v (ix3 b ⟨(t.val % 16 - (2 - u.val)) * 256 + j.val, by omega⟩ c) := by
  have key : ∀ (d : Fin 3), d.val = 2 - u.val → ∀ z, z = vblk x0 (grid0.coords t) d (ix4 0 0 j c) → z
      = v (ix3 b ⟨(t.val % 16 - (2 - u.val)) * 256 + j.val, by omega⟩ c) := by
    intro d hd z hz
    rw [hz]
    rw [vblk_at, hx0, qkv_v]
    refine congrArg (fun z => v (ix3 b z _)) (Fin.ext ?_)
    dsimp only
    rw [hd]
  match u, key with
  | ⟨0, _⟩, key => exact key 2 rfl _ rfl
  | ⟨1, _⟩, key => exact key 1 rfl _ rfl
  | ⟨2, _⟩, key => exact key 0 rfl _ rfl

/-- Where key `x` of row `r`'s 576 lies in the band. -/
def place (r : Fin 256) (x : Fin 576) : Fin 3 × Fin 256 :=
  (⟨(64 * (r.val / 64) + x.val) / 256, by omega⟩, ⟨(64 * (r.val / 64) + x.val) % 256, by omega⟩)

theorem place_inj (r : Fin 256) : Function.Injective (place r) := by
  intro x y e
  have e1 := congrArg (fun z : Fin 3 × Fin 256 => z.1.val) e
  have e2 := congrArg (fun z : Fin 3 × Fin 256 => z.2.val) e
  simp only [place] at e1 e2
  exact Fin.ext (by omega)

/-- A row's softmax over the band, in powers of two, is the reference's over the row's 576 keys, in powers of `e`. -/
theorem row_eq (qr kr : S8x4096x256.Idx → ℝ) (br : S4x257.Idx → ℝ) (hq : ∀ i, q i = (qr i : EReal)) (hk : ∀ i, k i = (kr i : EReal))
    (hb : ∀ i, bt i = (br i : EReal)) (t : Fin cfg0.N) (b : Fin 8) (x0 : Vec Ideal S1x16x256x768 .bf16)
    (hx0 : ∀ i r x, x0 (ix4 0 i r x) = qkvArr q k v (ix4 b i r x)) (h : Fin 4) (r : Fin 256) (c : Fin 256)
    (hh : c.val / 64 = h.val) (M M' : EReal)
    (hM : ∀ u, M ≤ u ↔ ∀ n : Fin 3 × Fin 256, kscore x0 (tabArr bt) (grid0.coords t) h n.1 (ix2 r n.2) ≤ u)
    (hM' : ∀ u, M' ≤ u ↔ ∀ x, val_main_v65 (F := Ideal) q k bt
      (ix5 b ⟨4 * (t.val % 16) + r.val / 64, by omega⟩ h ⟨r.val % 64, by omega⟩ x) ≤ u) :
    (∑ n : Fin 3 × Fin 256, Ideal.exp2 (kscore x0 (tabArr bt) (grid0.coords t) h n.1 (ix2 r n.2) - M)
          * kvals x0 (grid0.coords t) n.1 (ix4 0 0 n.2 c))
        * Ideal.div 1 (∑ n : Fin 3 × Fin 256, Ideal.exp2 (kscore x0 (tabArr bt) (grid0.coords t) h n.1 (ix2 r n.2) - M))
      = ∑ x, Ideal.div
          (Ideal.exp (val_main_v65 (F := Ideal) q k bt (ix5 b ⟨4 * (t.val % 16) + r.val / 64, by omega⟩ h ⟨r.val % 64, by omega⟩ x) - M'))
          (∑ y, Ideal.exp (val_main_v65 (F := Ideal) q k bt (ix5 b ⟨4 * (t.val % 16) + r.val / 64, by omega⟩ h ⟨r.val % 64, by omega⟩ y) - M'))
          * val_main_v27 (F := Ideal) v (ix5 b ⟨4 * (t.val % 16) + r.val / 64, by omega⟩ x h ⟨c.val % 64, by omega⟩) := by
  have hL : (0 : ℝ) < 1 / Real.log 2 := one_div_pos.2 (Real.log_pos (by norm_num))
  have hS := kscore_at q k v bt x0 b hx0 t h
  have hV := kvals_at q k v x0 b hx0 t
  have hS' := score_at q k bt b ⟨4 * (t.val % 16) + r.val / 64, by omega⟩ h ⟨r.val % 64, by omega⟩
  refine soft (place r) (place_inj r) (fun n => kscore x0 (tabArr bt) (grid0.coords t) h n.1 (ix2 r n.2))
    (fun n => kvals x0 (grid0.coords t) n.1 (ix4 0 0 n.2 c)) _ _ (1 / Real.log 2) rfl ?_ ?_ ?_ ⟨512, by omega⟩ ?_ ?_ M M' hM hM'
  · intro x
    obtain ⟨n, hn⟩ : ∃ n, n = place r x := ⟨_, rfl⟩
    have h1 : n.1.val = (64 * (r.val / 64) + x.val) / 256 := by rw [hn]; rfl
    have h2 : n.2.val = (64 * (r.val / 64) + x.val) % 256 := by rw [hn]; rfl
    rw [← hn, hS, hS']
    dsimp only
    by_cases hc : 8 ≤ 4 * (t.val % 16) + r.val / 64 + x.val / 64
    · rw [if_pos hc, if_pos (by omega)]
      simp only [hq, hk, hb]
      refine Eq.trans ?_ (score_scale _ _ _ _)
      refine congrArg₂ (· + ·) (Finset.sum_congr rfl fun d _ => ?_) ?_
      · refine congrArg₂ (fun y z => ((qr y : ℝ) : EReal) * _ * ((kr z : ℝ) : EReal)) ?_ ?_
        · refine congrArg (fun z => ix3 _ z _) (Fin.ext ?_)
          dsimp only; omega
        · refine congrArg (fun z => ix3 _ z _) (Fin.ext ?_)
          dsimp only; omega
      · refine congrArg (fun y => ((br y : ℝ) : EReal) * _) (congrArg (ix2 h) (Fin.ext ?_))
        dsimp only; omega
    · rw [if_neg hc, if_neg (by omega), EReal.add_bot, EReal.coe_mul_bot_of_pos hL]
  · intro n hn
    rw [hS, if_neg, EReal.add_bot]
    rintro ⟨_, h1, h2⟩
    refine hn ⟨256 * n.1.val + n.2.val - 64 * (r.val / 64), by omega⟩ (Prod.ext (Fin.ext ?_) (Fin.ext ?_))
    · dsimp only [place]; omega
    · dsimp only [place]; omega
  · intro x
    rw [hS']
    split_ifs
    · simp only [hq, hk, hb, ← EReal.coe_mul, ← coe_sum, ← EReal.coe_add]
      exact EReal.coe_ne_top _
    · exact bot_ne_top
  · rw [hS', if_pos (by dsimp only; omega)]
    simp only [hq, hk, hb, ← EReal.coe_mul, ← coe_sum, ← EReal.coe_add]
    exact EReal.coe_ne_bot _
  · intro x hx
    rw [hS'] at hx
    have hc : 8 ≤ 4 * (t.val % 16) + r.val / 64 + x.val / 64 := by
      by_contra hc
      exact hx (if_neg hc)
    obtain ⟨n, hn⟩ : ∃ n, n = place r x := ⟨_, rfl⟩
    have h1 : n.1.val = (64 * (r.val / 64) + x.val) / 256 := by rw [hn]; rfl
    have h2 : n.2.val = (64 * (r.val / 64) + x.val) % 256 := by rw [hn]; rfl
    rw [← hn, hV, value_at, if_pos hc]
    refine congrArg₂ (fun y z => v (ix3 _ y z)) (Fin.ext ?_) (Fin.ext ?_)
    · dsimp only; omega
    · dsimp only; omega

/-- What a grid step stores is the reference's result at its rows, when queries, keys and bias are real numbers. -/
theorem block_eq (qr kr : S8x4096x256.Idx → ℝ) (br : S4x257.Idx → ℝ) (hq : ∀ i, q i = (qr i : EReal)) (hk : ∀ i, k i = (kr i : EReal))
    (hb : ∀ i, bt i = (br i : EReal)) (t : Fin cfg0.N) (x0 : Vec Ideal S1x16x256x768 .bf16)
    (hx0 : ∀ i r x, x0 (ix4 0 i r x) = qkvArr q k v (ix4 ⟨t.val / 16, by have := t.isLt; have : cfg0.N = 128 := rfl; omega⟩ i r x))
    (x1 : Vec Ideal S256x256 .f32) (r c : Fin 256)
    (hx1 : x1 (ix2 r c) = g (ix2 ⟨256 * t.val + r.val, by have := t.isLt; have : cfg0.N = 128 := rfl; omega⟩ ⟨256 + c.val, by omega⟩)) :
    outV (qblk x0 (grid0.coords t)) (kblk x0 (grid0.coords t) 2) (kblk x0 (grid0.coords t) 1) (kblk x0 (grid0.coords t) 0)
        (vblk x0 (grid0.coords t) 2) (vblk x0 (grid0.coords t) 1) (vblk x0 (grid0.coords t) 0)
        (bblk0 (tabArr bt) (grid0.coords t)) (bblk1 (tabArr bt) (grid0.coords t)) (bblk2 (tabArr bt) (grid0.coords t))
        (bblk3 (tabArr bt) (grid0.coords t)) x1 (ix2 r c)
      = val_main_v83 (F := Ideal) q k v g bt (ix2 ⟨256 * t.val + r.val, by have := t.isLt; have : cfg0.N = 128 := rfl; omega⟩ c) := by
  have hN : t.val < 128 := t.isLt
  refine (outV_at _ _ _ _ _ _ _ (bblk (tabArr bt) (grid0.coords t)) x1 r c ⟨c.val / 64, by omega⟩ rfl).trans ?_
  rw [hd_at, ref_at, hx1]
  refine congrArg (· * _) ?_
  generalize hh : (⟨c.val / 64, by omega⟩ : Fin 4) = h
  have hhv : h.val = c.val / 64 := by rw [← hh]
  have hBe : (⟨(256 * t.val + r.val) / 4096, by omega⟩ : Fin 8) = ⟨t.val / 16, by omega⟩ := Fin.ext (by dsimp only; omega)
  have hCe : (⟨(256 * t.val + r.val) / 64 % 64, by omega⟩ : Fin 64) = ⟨4 * (t.val % 16) + r.val / 64, by omega⟩ :=
    Fin.ext (by dsimp only; omega)
  have hRe : (⟨(256 * t.val + r.val) % 64, by omega⟩ : Fin 64) = ⟨r.val % 64, by omega⟩ := Fin.ext (by dsimp only; omega)
  rw [hBe, hCe, hRe]
  simp only [prob_at]
  exact row_eq q k v bt qr kr br hq hk hb t _ x0 hx0 h r c hhv.symm _ _ (fun u => mx3_le _ _ _ r u)
    (fun u => max_le q k bt _ _ h _ u)

end Cert.Band

end
-- ==== Proof.BandFinal.lean ====
module

public import proofs.«01_k».proof.Proof.BandEq
public import proofs.«01_k».proof.Proof.BandHost
public import proofs.«01_k».proof.Defs
public import Idealize.ShloMosaic.Lib.Pipeline.ValueKit
public import Idealize.ShloMosaic.Lib.Pointwise

@[expose] public section

set_option maxRecDepth 16384

noncomputable section

namespace Cert.Band

open Cert.KernelIdeal Cert.KernelIdeal.Gen Idealize.ShloMosaic Idealize.ShloMosaic.TcCoe Idealize.SL.Sem
open Idealize.ShloMosaic.Pipeline (Dat)

open Cert.ReferenceIdeal.Read

variable (m : (ℓ : Loc nD τ sig) → Buf (Elt Ideal) ℓ)

/-- Which block of its array each window takes at each step. -/
theorem idx0 : ∀ t : Fin cfg0.N, win0_0.index t = ![t.val / 16, 0, 0, 0] := (by decide +kernel : ∀ t : Fin grid0.N, _)
/-- Likewise for the gates. -/
theorem idx1 : ∀ t : Fin cfg0.N, win0_1.index t = ![t.val, 1] := (by decide +kernel : ∀ t : Fin grid0.N, _)
/-- Likewise for the bias table. -/
theorem idx2 : ∀ t : Fin cfg0.N, win0_2.index t = ![0, 0, 0, 0] := (by decide +kernel : ∀ t : Fin grid0.N, _)
/-- Likewise for the result. -/
theorem idx3 : ∀ t : Fin cfg0.N, win0_3.index t = ![t.val, 0] := (by decide +kernel : ∀ t : Fin grid0.N, _)

/-- Reading any array through the first window's block of step `t` reads batch `t / 16`. -/
theorem read0 (t : Fin cfg0.N) (X : FVec Ideal S8x16x256x768 .bf16) (i : Fin 16) (r : Fin 256) (x : Fin 768) :
    ((cfg0.win 0).blk t).view.read (Elt Ideal) X (ix4 0 i r x)
      = X (ix4 ⟨t.val / 16, by have := t.isLt; have : cfg0.N = 128 := rfl; omega⟩ i r x) := by
  show X (((cfg0.win 0).blk t).view.emb (ix4 0 i r x)) = _
  blk_ext [idx0 t]

/-- The block a step sees of queries, keys and values is batch `t / 16` of the array. -/
theorem in0_at (c : Dev nD) (t : Fin cfg0.N) (i : Fin 16) (r : Fin 256) (x : Fin 768) :
    iblk m c 0 t (ix4 0 i r x)
      = qkvArr (m ((c : Thread nD τ).loc main_arg0)) (m ((c : Thread nD τ).loc main_arg1)) (m ((c : Thread nD τ).loc main_arg2))
          (ix4 ⟨t.val / 16, by have := t.isLt; have : cfg0.N = 128 := rfl; omega⟩ i r x) := by
  rw [← v7_eq m c]
  unfold iblk
  exact read0 t (V m c main_v7) i r x

/-- The gates a step sees: its 256 rows, columns 256 to 511. -/
theorem in1_at (c : Dev nD) (t : Fin cfg0.N) (r x : Fin 256) :
    iblk m c 1 t (ix2 r x) = m ((c : Thread nD τ).loc main_arg3) (ix2 ⟨256 * t.val + r.val, by have := t.isLt; have : cfg0.N = 128 := rfl; omega⟩ ⟨256 + x.val, by omega⟩) := by
  blk_simp [iblk]
  rw [V_main_arg3 m c]
  blk_ext [idx1 t]

/-- Every step sees the whole bias table. -/
theorem in2_blk (c : Dev nD) (t : Fin cfg0.N) : iblk m c 2 t = V m c main_v52 := by
  funext y
  blk_simp [iblk]
  generalize V m c main_v52 = X
  blk_ext [idx2 t]

/-- The bias table, from the bias. -/
theorem in2_at (c : Dev nD) (t : Fin cfg0.N) : iblk m c 2 t = tabArr (m ((c : Thread nD τ).loc main_arg4)) :=
  (in2_blk m c t).trans (v52_eq m c)

/-- The result array's block of step `t` is rows `256 * t` on. -/
theorem out_emb (t : Fin cfg0.N) (r x : Fin 256) :
    ((View.whole main_v53).slice (win0_3.rect t)).emb (ix2 r x)
      = ix2 ⟨256 * t.val + r.val, by have := t.isLt; have : cfg0.N = 128 := rfl; omega⟩ x := by
  blk_ext [idx3 t]

/-- A number whose absolute value is below the pattern of `+∞` is real. -/
theorem real_of_lt {x : EReal}
    (h : BitVec.ofBool (decide (FloatOps.absf (F := Ideal) (φ := .f32) x < Ideal.ofBits FTy.f32 2139095040#32)) = 1#1) :
    ∃ r : ℝ, x = (r : EReal) := by
  have ht : Ideal.ofBits FTy.f32 2139095040#32 = ⊤ := by
    simp only [Ideal.ofBits, Ideal.ieee]
    rw [if_pos (by decide)]
    rfl
  rw [ht] at h
  have hl : FloatOps.absf (F := Ideal) (φ := .f32) x < (⊤ : EReal) := by
    by_contra hc
    rw [decide_eq_false hc] at h
    exact absurd h (by decide)
  have hm : max x (-x) < ⊤ := hl
  refine coe_of_ne (fun e => ?_) (fun e => ?_)
  · rw [e] at hm; simp at hm
  · rw [e] at hm; simp at hm

/-- Under the precondition the queries, the keys and the bias are real numbers. -/
theorem pre_real [Cert.Pre_finite.Facts] (h : Pre_KernelIdeal_finite m) (c : Dev nD) :
    (∀ i, ∃ r : ℝ, m ((c : Thread nD τ).loc main_arg0) i = (r : EReal))
      ∧ (∀ i, ∃ r : ℝ, m ((c : Thread nD τ).loc main_arg1) i = (r : EReal))
      ∧ (∀ i, ∃ r : ℝ, m ((c : Thread nD τ).loc main_arg4) i = (r : EReal)) := by
  refine ⟨fun i => ?_, fun i => ?_, fun i => ?_⟩
  · have h0 := congrFun (h c).1 i
    pointwise [Cert.Pre_finite.fn] at h0
    exact real_of_lt h0
  · have h0 := congrFun (h c).2.1 i
    pointwise [Cert.Pre_finite.fn] at h0
    exact real_of_lt h0
  · have h0 := congrFun (h c).2.2 i
    pointwise [Cert.Pre_finite.fn] at h0
    exact real_of_lt h0

/-- The result array after the run is the reference's result. -/
theorem final (c : Dev nD) (qr kr : S8x4096x256.Idx → ℝ) (br : S4x257.Idx → ℝ)
    (hq : ∀ i, m ((c : Thread nD τ).loc main_arg0) i = (qr i : EReal)) (hk : ∀ i, m ((c : Thread nD τ).loc main_arg1) i = (kr i : EReal))
    (hb : ∀ i, m ((c : Thread nD τ).loc main_arg4) i = (br i : EReal)) : (dats m 0 c).arrAt 3 (cfgs 0).N
    = val_main_v83 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 3 _ (by decide +kernel) fun t _ y => ?_
  blk_simp
  rw [after0_3]
  simp only [outsAt0]
  rw [out_eq, in2_at]
  obtain ⟨r, x, hy⟩ : ∃ (r x : Fin 256), y = ix2 r x :=
    ⟨y 0, y 1, funext fun a => match a with | ⟨0, _⟩ => rfl | ⟨1, _⟩ => rfl⟩
  rw [hy]
  exact (block_eq _ _ _ _ _ qr kr br hq hk hb t _ (in0_at m c t) _ r x (in1_at m c t r x)).trans
    (congrArg _ (out_emb t r x).symm)

end Cert.Band

end
-- ==== Proof.OutFinal.lean ====
module

public import proofs.«01_k».proof.Defs
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.Pipeline.ValueKit
public import Idealize.ShloMosaic.Lib.Pointwise

@[expose] public section

set_option maxRecDepth 16384

noncomputable section

namespace Cert.Out

open Cert.KernelOutIdeal Cert.KernelOutIdeal.Gen Idealize.ShloMosaic Idealize.ShloMosaic.TcCoe Idealize.SL.Sem
open Idealize.ShloMosaic.Pipeline (Dat)
open Cert.ReferenceOutIdeal.Read

/-- A sum over 1024 places is the sum of its four quarters. -/
theorem sum_quarters (f : Fin 1024 → EReal) : ∑ k : Fin 1024, f k
    = (((∑ k : Fin 256, f ⟨k.val, by omega⟩) + ∑ k : Fin 256, f ⟨256 + k.val, by omega⟩)
        + ∑ k : Fin 256, f ⟨512 + k.val, by omega⟩) + ∑ k : Fin 256, f ⟨768 + k.val, by omega⟩ := by
  rw [Fin.sum_univ_add (a := 768) (b := 256) f, Fin.sum_univ_add (a := 512) (b := 256),
    Fin.sum_univ_add (a := 256) (b := 256)]
  rfl

/-- The layer norm of one row, at one place: the row's values, a scale and a shift. -/
def ln (u : Fin 1024 → EReal) (g b : EReal) (j : Fin 1024) : EReal :=
  (u j - Ideal.div (∑ k, u k) (Ideal.ofBits .f32 0x44800000#32))
      * Ideal.rsqrt (Ideal.div
          (∑ k, (u k - Ideal.div (∑ k, u k) (Ideal.ofBits .f32 0x44800000#32))
            * (u k - Ideal.div (∑ k, u k) (Ideal.ofBits .f32 0x44800000#32)))
          (Ideal.ofBits .f32 0x44800000#32) + Ideal.ofBits .f32 0x3727C5AC#32)
      * g + b

section Kernel
variable (v : FVec Ideal S512x1024 .f32) (g b : FVec Ideal S1x1024 .f32)

theorem pay1_at (r : Fin 512) (j : Fin 1024) : k0_pay1 v g b (ix2 r j) = ln (fun k => v (ix2 r k)) (g (ix2 0 j)) (b (ix2 0 j)) j := by
  pointwise [k0_pay1]
  rfl
end Kernel

section Ref
variable (x0 : FVec Ideal S32768x1024 .f32) (x1 x2 x3 x4 : FVec Ideal S32768x256 .bf16) (x5 : FVec Ideal S1024x1024 .f32) (x6 x7 x8 : FVec Ideal S1024 .f32)

theorem ref_at (r : Fin 32768) (j : Fin 1024) : val_main_v32 (F := Ideal) x0 x1 x2 x3 x4 x5 x6 x7 x8 (ix2 r j)
    = ln (fun k => val_main_v8 (F := Ideal) x0 x1 x2 x3 x4 x5 x6 (ix2 r k)) (x7 (ix1 j)) (x8 (ix1 j)) j := by
  unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9
  generalize val_main_v8 (F := Ideal) x0 x1 x2 x3 x4 x5 x6 = u
  pointwise [val_main_cst_0, val_main_cst_1, val_main_cst_2, val_main_cst_3, val_main_cst_4]
  rfl

theorem ref8_at (r : Fin 32768) (j : Fin 1024) : val_main_v8 (F := Ideal) x0 x1 x2 x3 x4 x5 x6 (ix2 r j)
    = Ideal.ofBits .f32 0x3FB504F3#32 * x0 (ix2 r j)
      + ((((x6 (ix1 j) + ∑ k : Fin 256, x1 (ix2 r k) * x5 (ix2 ⟨k.val, by omega⟩ j))
          + ∑ k : Fin 256, x2 (ix2 r k) * x5 (ix2 ⟨256 + k.val, by omega⟩ j))
          + ∑ k : Fin 256, x3 (ix2 r k) * x5 (ix2 ⟨512 + k.val, by omega⟩ j))
          + ∑ k : Fin 256, x4 (ix2 r k) * x5 (ix2 ⟨768 + k.val, by omega⟩ j)) := by
  pointwise [val_main_v8, val_main_v7, val_main_v6, val_main_v5, val_main_v4, val_main_v3, val_main_v2, val_main_v1, val_main_v0, val_main_cst]
  refine congrArg _ ?_
  rw [sum_quarters, add_comm, ← add_assoc, ← add_assoc, ← add_assoc]
  refine congrArg₂ _ (congrArg₂ _ (congrArg₂ _ (congrArg _ ?_) ?_) ?_) ?_ <;>
    refine Finset.sum_congr rfl fun k _ => congrArg (· * _) ?_
  · rw [dif_pos (show k.val < 256 by omega)]
  · rw [dif_neg (show ¬ 256 + k.val < 256 by omega), dif_pos (show 256 + k.val - 256 < 256 by omega)]
    exact congrArg x2 (congrArg (ix2 r) (Fin.ext (by dsimp only; omega)))
  · rw [dif_neg (show ¬ 512 + k.val < 256 by omega), dif_neg (show ¬ 512 + k.val - 256 < 256 by omega),
      dif_pos (show 512 + k.val - 256 - 256 < 256 by omega)]
    exact congrArg x3 (congrArg (ix2 r) (Fin.ext (by dsimp only; omega)))
  · rw [dif_neg (show ¬ 768 + k.val < 256 by omega), dif_neg (show ¬ 768 + k.val - 256 < 256 by omega),
      dif_neg (show ¬ 768 + k.val - 256 - 256 < 256 by omega)]
    exact congrArg x4 (congrArg (ix2 r) (Fin.ext (by dsimp only; omega)))

end Ref

section Block
variable (m : (ℓ : Loc nD τ sig) → Buf (Elt Ideal) ℓ)

/-- Which block of its array each window takes at each step. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The weighted sum a step forms before the norm, at one place, from the blocks it reads. -/
theorem pay2_at (x0 : Vec Ideal S512x1024 .f32) (x1 x2 x3 x4 : Vec Ideal S512x256 .bf16) (w1 w2 w3 w4 : Vec Ideal S256x1024 .bf16)
    (b : Vec Ideal S1x1024 .f32) (r : Fin 512) (j : Fin 1024) : k0_pay2 (F := Ideal) b x1 w1 x2 w2 x3 w3 x4 w4 x0 (ix2 r j)
    = Ideal.ofBits .f32 0x3FB504F3#32 * x0 (ix2 r j)
      + ((((b (ix2 0 j) + ∑ k : Fin 256, x1 (ix2 r k) * w1 (ix2 k j)) + ∑ k : Fin 256, x2 (ix2 r k) * w2 (ix2 k j))
          + ∑ k : Fin 256, x3 (ix2 r k) * w3 (ix2 k j)) + ∑ k : Fin 256, x4 (ix2 r k) * w4 (ix2 k j)) := by
  pointwise [k0_pay2]

/-- The result array after the run is the reference's result. -/
theorem final (c : Dev nD) : (dats m 0 c).arrAt 9 (cfgs 0).N
    = val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (dats m 0 c).arrAt_eq_of_covers 9 _ (by decide +kernel) fun t _ y => ?_
  blk_simp
  rw [after0_9]
  frame_out
  obtain ⟨r, x, hy⟩ : ∃ (r : Fin 512) (x : Fin 1024), y = ix2 r x :=
    ⟨y 0, y 1, funext fun a => match a with | ⟨0, _⟩ => rfl | ⟨1, _⟩ => rfl⟩
  subst hy
  have he : ((View.whole main_v4).slice (win0_9.rect t)).emb (ix2 r x)
      = ix2 ⟨512 * t.val + r.val, by have h := t.isLt; have : cfg0.grid.N = 64 := rfl; omega⟩ x := by blk_ext [(idx t)]
  rw [he, pay1_at, ref_at]
  simp only [pay2_at, ref8_at]
  congr 1
  · funext k
    blk_point [iblk, V, idx t, r0_2, r0_3, r0_4, r0_5]
  · pointwise [k0_pay3]
    blk_point [iblk, V, idx t]
  · blk_point [iblk, V, idx t]

end Block

end Cert.Out

end
-- ==== Proof.OutClaim.lean ====
module

public import proofs.«01_k».proof.Defs
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.OutFinal
public import Idealize.ShloMosaic.Adequacy
public import Idealize.ShloMosaic.Init

@[expose] public section

noncomputable section

namespace Cert.Out

open Idealize.ShloMosaic Idealize.SL.Sem Cert.KernelOut

/-- The reference of the output projection leaves its arguments as they were; it declares no semaphore. -/
theorem ref_quiescent : Cert.quiescent_ReferenceOutIdeal (hReferenceOutIdeal := Cert.ReferenceOutIdeal.Gen.facts) := fun m g _ =>
  (θ_run Cert.ReferenceOutIdeal.defs _ _).mono
    (fun r h => ⟨fun c => (h c).2, sem_eq_zero_of_no_sems (by decide) r.2⟩)
    (Cert.ReferenceOutIdeal.Value.run m g)

/-- The kernel's normalised output rows are the reference's. -/
theorem claim : Cert.algebraic_KernelOutIdeal_ReferenceOutIdeal (hKernelOutIdeal := Cert.KernelOutIdeal.Gen.facts)
    (hReferenceOutIdeal := Cert.ReferenceOutIdeal.Gen.facts) := by
  pair_intro
  · run_from Cert.KernelOutIdeal.Value.run_blocks m g
  · run_from Cert.ReferenceOutIdeal.Value.run m' g'
    obtain ⟨a0, a1, a2, a3, a4, a5, a6, a7, a8⟩ := hagree c
    rw [Cert.ReferenceOutIdeal.Read.val_main_v32_eq m' c, a0, a1, a2, a3, a4, a5, a6, a7, a8]
    exact (final m c).symm

end Cert.Out

end
-- ==== Proof.InCore.lean ====
module

public import proofs.«01_k».proof.Defs
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Gen.ReferenceInIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.In

open Cert.KernelInIdeal Cert.KernelInIdeal.Gen Idealize.ShloMosaic Idealize.ShloMosaic.TcCoe Idealize.SL.Sem
open Idealize.ShloMosaic.Pipeline (Dat)
open Cert.ReferenceInIdeal.Read

variable (m : (ℓ : Loc nD τ sig) → Buf (Elt Ideal) ℓ)

/-- Which block of its array each flat window takes at each step. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_11.index t = ![t.val, 0] ∧ win0_12.index t = ![t.val, 0] ∧ win0_13.index t = ![t.val, 0]
    ∧ win0_14.index t = ![t.val, 0] ∧ win0_15.index t = ![t.val, 0] :=
  (by decide +kernel : ∀ t : Fin grid0.N, _)

/-- Which block the value window takes at each step. -/
theorem idx10 : ∀ t : Fin cfg0.N, win0_10.index t = ![t.val / 8, t.val % 8, 0, 0] :=
  (by decide +kernel : ∀ t : Fin grid0.N, _)

/-- A choice has a value when both branches have it. -/
theorem dite_to {p : Prop} [Decidable p] {a : p → EReal} {b : ¬p → EReal} {v : EReal} (h1 : ∀ h, a h = v) (h2 : ∀ h, b h = v) :
    dite p a b = v := by
  split
  · exact h1 _
  · exact h2 _

/-- The column of the whole projection that column `j` of the reordered bf16 weights comes from. -/
def col (j : ℕ) : ℕ :=
  if j < 512 then j else if j < 1280 then j + 256 else if j < 1792 then j + 512 else if j < 2048 then j + 1608
  else if j < 2304 then j - 1536 else if j < 2560 then j - 768 else if j < 2816 then j else j + 840

/-- That column is one of the projection's. -/
theorem col_lt (j : Fin 3072) : col j.val < 3912 := by
  unfold col; split_ifs <;> omega

set_option maxHeartbeats 4000000 in
/-- The reordered bias, at one place. -/
theorem bias_at (c : Dev nD) (j : Fin 3072) : V m c main_v40 (ix2 0 j) = m ((c : Thread nD τ).loc main_arg2) (ix1 ⟨col j.val, col_lt j⟩) := by
  after_reads_simp
  change @Eq EReal _ _
  pointwise []
  repeat' with_reducible refine dite_to (fun h => ?_) (fun h => ?_)
  all_goals
    after_reads_at
    refine congrArg (m ((c : Thread nD τ).loc main_arg2)) (congrArg ix1 (Fin.ext ?_))
    dsimp only
    unfold col
    split_ifs <;> omega

set_option maxHeartbeats 4000000 in
/-- The reordered bf16 weights, at one place. -/
theorem w_at (c : Dev nD) (d : Fin 1024) (j : Fin 3072) : V m c main_v43 (ix2 d j) = m ((c : Thread nD τ).loc main_arg1) (ix2 d ⟨col j.val, col_lt j⟩) := by
  after_reads_simp
  change @Eq EReal _ _
  pointwise []
  repeat' with_reducible refine dite_to (fun h => ?_) (fun h => ?_)
  all_goals
    after_reads_at
    refine congrArg (m ((c : Thread nD τ).loc main_arg1)) (congrArg (ix2 d) (Fin.ext ?_))
    dsimp only
    unfold col
    split_ifs <;> omega

set_option maxHeartbeats 4000000 in
/-- The reordered bias of the f32 columns, at one place. -/
theorem bias2_at (c : Dev nD) (j : Fin 896) : @Eq EReal (V m c main_v41 (ix2 0 j))
    (if h : j.val < 576 then (m ((c : Thread nD τ).loc main_arg2)) (ix1 ⟨2816 + j.val, by omega⟩) else if h : j.val < 704 then 0
      else if h : j.val < 768 then (m ((c : Thread nD τ).loc main_arg2)) (ix1 ⟨2624 + j.val, by omega⟩)
      else if h : j.val < 776 then (m ((c : Thread nD τ).loc main_arg2)) (ix1 ⟨2624 + j.val, by omega⟩) else 0) := by
  after_reads_simp
  change @Eq EReal _ _
  pointwise []
  repeat' split
  all_goals first
    | omega
    | (after_reads_at; done)
    | (after_reads_at
       refine congrArg (m ((c : Thread nD τ).loc main_arg2)) (congrArg (ix1) (Fin.ext ?_))
       dsimp only
       omega)

set_option maxHeartbeats 4000000 in
/-- The reordered f32 weights, at one place. -/
theorem w2_at (c : Dev nD) (d : Fin 1024) (j : Fin 896) : @Eq EReal (V m c main_v19 (ix2 d j))
    (if h : j.val < 576 then (m ((c : Thread nD τ).loc main_arg1)) (ix2 d ⟨2816 + j.val, by omega⟩) else if h : j.val < 704 then 0
      else if h : j.val < 768 then (m ((c : Thread nD τ).loc main_arg1)) (ix2 d ⟨2624 + j.val, by omega⟩)
      else if h : j.val < 776 then (m ((c : Thread nD τ).loc main_arg1)) (ix2 d ⟨2624 + j.val, by omega⟩) else 0) := by
  after_reads_simp
  change @Eq EReal _ _
  pointwise []
  repeat' split
  all_goals first
    | omega
    | (after_reads_at; done)
    | (after_reads_at
       refine congrArg (m ((c : Thread nD τ).loc main_arg1)) (congrArg (ix2 d) (Fin.ext ?_))
       dsimp only
       omega)

set_option maxHeartbeats 4000000 in
/-- The transposed value weights, at one place. -/
theorem wt_at (c : Dev nD) (d : Fin 1024) (j : Fin 256) : V m c main_v45 (ix2 j d) = m ((c : Thread nD τ).loc main_arg1) (ix2 d ⟨2304 + j.val, by omega⟩) := by
  after_reads_at

set_option maxHeartbeats 4000000 in
/-- The value bias as a column, at one place. -/
theorem bt_at (c : Dev nD) (j : Fin 256) : V m c main_v46 (ix2 j 0) = m ((c : Thread nD τ).loc main_arg2) (ix1 ⟨2304 + j.val, by omega⟩) := by
  after_reads_at

section Ref
variable (x0 : Vec Ideal S32768x1024 .f32) (x1 : Vec Ideal S1024x3912 .f32) (x2 : Vec Ideal S3912 .f32)

/-- The reference's projection, at one place. -/
theorem ref3_at (r : Fin 32768) (k : Fin 3912) :
   val_main_v3 (F := Ideal) x0 x1 x2 (ix2 r k) = ∑ d : Fin 1024, x0 (ix2 r d) * x1 (ix2 d k) + x2 (ix1 k) := by
  pointwise [val_main_v3, val_main_v2, val_main_v1, val_main_v0]

/-- The band mixer's columns of the reference, at one place. -/
theorem ref48_at (r : Fin 32768) (k : Fin 768) :
   val_main_v48 (F := Ideal) x0 x1 x2 (ix2 r k) = val_main_v3 (F := Ideal) x0 x1 x2 (ix2 r ⟨col (512 + k.val), col_lt ⟨512 + k.val, by omega⟩⟩) := by
  unfold val_main_v48 val_main_v47 val_main_v7 val_main_v8 val_main_v9
  generalize val_main_v3 (F := Ideal) x0 x1 x2 = u
  pointwise []
  repeat' split
  all_goals
    refine congrArg u (congrArg (ix2 r) (Fin.ext ?_))
    dsimp only
    unfold col
    split_ifs <;> omega

/-- The sparse mixer's queries and keys of the reference, at one place. -/
theorem ref50_at (r : Fin 32768) (k : Fin 512) :
   val_main_v50 (F := Ideal) x0 x1 x2 (ix2 r k) = val_main_v3 (F := Ideal) x0 x1 x2 (ix2 r ⟨col (1280 + k.val), col_lt ⟨1280 + k.val, by omega⟩⟩) := by
  unfold val_main_v50 val_main_v49 val_main_v11 val_main_v12
  generalize val_main_v3 (F := Ideal) x0 x1 x2 = u
  pointwise []
  repeat' split
  all_goals
    refine congrArg u (congrArg (ix2 r) (Fin.ext ?_))
    dsimp only
    unfold col
    split_ifs <;> omega

/-- The memory mixer's queries of the reference, at one place. -/
theorem ref66_at (r : Fin 32768) (k : Fin 256) :
   val_main_v66 (F := Ideal) x0 x1 x2 (ix2 r k) = val_main_v3 (F := Ideal) x0 x1 x2 (ix2 r ⟨col (1792 + k.val), col_lt ⟨1792 + k.val, by omega⟩⟩) := by
  unfold val_main_v66 val_main_v18
  generalize val_main_v3 (F := Ideal) x0 x1 x2 = u
  pointwise []
  refine congrArg u (congrArg (ix2 r) (Fin.ext ?_))
  dsimp only
  unfold col
  split_ifs <;> omega

/-- The gated linear unit's activation, as both programs spell it. -/
def gelu (x : EReal) : EReal :=
  x * (Ideal.ofBits .f32 0x3F000000#32 * (1
    + Ideal.tanh (Ideal.ofBits .f32 0x3F4C422A#32 * (x + Ideal.ofBits .f32 0x3D372713#32 * (x * x * x)))))

/-- The gates' activation. -/
def silu (x : EReal) : EReal :=
  x * Ideal.div (1) (1 + Ideal.exp (-x))

/-- The gated unit's columns of the reference, at one place. -/
theorem ref46_at (r : Fin 32768) (k : Fin 512) :
   val_main_v46 (F := Ideal) x0 x1 x2 (ix2 r k) = gelu (val_main_v3 (F := Ideal) x0 x1 x2 (ix2 r ⟨col k.val, col_lt ⟨k.val, by omega⟩⟩)) := by
  have hc : ∀ (j : Fin 3912), j.val = k.val → j = ⟨col k.val, col_lt ⟨k.val, by omega⟩⟩ := fun j h => Fin.ext (by
    dsimp only; unfold col; split_ifs <;> omega)
  generalize (⟨col k.val, col_lt ⟨k.val, by omega⟩⟩ : Fin 3912) = q at hc
  unfold val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v4 val_main_v5
  generalize val_main_v3 (F := Ideal) x0 x1 x2 = u
  pointwise [val_main_cst, val_main_cst_0, val_main_cst_1, val_main_cst_2, val_main_cst_3, val_main_cst_4, val_main_cst_5, val_main_cst_6]
  split
  · rw [hc ⟨k.val, by omega⟩ rfl]; rfl
  · rw [hc ⟨256 + (k.val - 256), by omega⟩ (by dsimp only; omega)]; rfl

/-- The gates of the reference, at one place. -/
theorem ref65_at (r : Fin 32768) (k : Fin 1024) :
   val_main_v65 (F := Ideal) x0 x1 x2 (ix2 r k) = silu (val_main_v3 (F := Ideal) x0 x1 x2 (ix2 r ⟨col (2048 + k.val), col_lt ⟨2048 + k.val, by omega⟩⟩)) := by
  unfold val_main_v65 val_main_v64 val_main_v63 val_main_v62 val_main_v61 val_main_call0_v5 val_main_call0_v4 val_main_call0_v3 val_main_call0_v2 val_main_call0_v1 val_main_call0_v0 val_main_call1_v5 val_main_call1_v4 val_main_call1_v3 val_main_call1_v2 val_main_call1_v1 val_main_call1_v0 val_main_call2_v5 val_main_call2_v4 val_main_call2_v3 val_main_call2_v2 val_main_call2_v1 val_main_call2_v0 val_main_call3_v5 val_main_call3_v4 val_main_call3_v3 val_main_call3_v2 val_main_call3_v1 val_main_call3_v0 val_main_v6 val_main_v10 val_main_v14 val_main_v19
  generalize val_main_v3 (F := Ideal) x0 x1 x2 = u
  pointwise [val_main_call0_cst, val_main_call0_cst_0, val_main_call1_cst, val_main_call1_cst_0, val_main_call2_cst, val_main_call2_cst_0, val_main_call3_cst, val_main_call3_cst_0]
  repeat' split
  all_goals
    refine congrArg (fun q => silu (u (ix2 r q))) (Fin.ext ?_)
    dsimp only
    unfold col
    split_ifs <;> omega

end Ref

/-- What a step forms for one row and one column of the reordered weights is the reference's projection there. -/
theorem proj_at (c : Dev nD) (t : Fin cfg0.N) (i : Fin 512) (j : Fin 3072) :
    @Eq EReal (∑ d : Fin 1024, @HMul.hMul EReal EReal EReal _ (iblk m c 0 t (ix2 i d)) (iblk m c 1 t (ix2 d j)) + iblk m c 2 t (ix2 0 j))
    (val_main_v3 (F := Ideal) (m ((c : Thread nD τ).loc main_arg0)) (m ((c : Thread nD τ).loc main_arg1)) (m ((c : Thread nD τ).loc main_arg2)) (ix2 ⟨512 * t.val + i.val, by have h := t.isLt; have : cfg0.N = 64 := rfl; omega⟩ ⟨col j.val, col_lt j⟩)) := by
  rw [ref3_at]
  rw [← bias_at m c j]
  simp only [← w_at m c]
  blk_point [iblk, V_main_arg0, idx t]

set_option maxHeartbeats 1000000 in
/-- The same for a column of the reordered f32 weights, whose padding columns are zero. -/
theorem proj2_at (c : Dev nD) (t : Fin cfg0.N) (i : Fin 512) (j : Fin 896) :
    @Eq EReal (∑ d : Fin 1024, @HMul.hMul EReal EReal EReal _ (iblk m c 0 t (ix2 i d)) (iblk m c 3 t (ix2 d j)) + iblk m c 4 t (ix2 0 j))
    (if h : j.val < 576 then val_main_v3 (F := Ideal) (m ((c : Thread nD τ).loc main_arg0)) (m ((c : Thread nD τ).loc main_arg1)) (m ((c : Thread nD τ).loc main_arg2)) (ix2 ⟨512 * t.val + i.val, by have h := t.isLt; have : cfg0.N = 64 := rfl; omega⟩ ⟨2816 + j.val, by omega⟩) else if h : j.val < 704 then 0
      else if h : j.val < 768 then val_main_v3 (F := Ideal) (m ((c : Thread nD τ).loc main_arg0)) (m ((c : Thread nD τ).loc main_arg1)) (m ((c : Thread nD τ).loc main_arg2)) (ix2 ⟨512 * t.val + i.val, by have h := t.isLt; have : cfg0.N = 64 := rfl; omega⟩ ⟨2624 + j.val, by omega⟩)
      else if h : j.val < 776 then val_main_v3 (F := Ideal) (m ((c : Thread nD τ).loc main_arg0)) (m ((c : Thread nD τ).loc main_arg1)) (m ((c : Thread nD τ).loc main_arg2)) (ix2 ⟨512 * t.val + i.val, by have h := t.isLt; have : cfg0.N = 64 := rfl; omega⟩ ⟨2624 + j.val, by omega⟩) else 0) := by
  trans (∑ d : Fin 1024, @HMul.hMul EReal EReal EReal _ (m ((c : Thread nD τ).loc main_arg0) (ix2 ⟨512 * t.val + i.val, by have h := t.isLt; have : cfg0.N = 64 := rfl; omega⟩ d)) (V m c main_v19 (ix2 d j)) + V m c main_v41 (ix2 0 j))
  · blk_point [iblk, V_main_arg0, idx t]
  rw [bias2_at m c j]
  simp only [w2_at m c, ref3_at]
  by_cases h1 : j.val < 576
  · simp only [dif_pos h1]
  by_cases h2 : j.val < 704
  · simp only [dif_neg h1, dif_pos h2, mul_zero, Finset.sum_const_zero, add_zero]
  by_cases h3 : j.val < 768
  · simp only [dif_neg h1, dif_neg h2, dif_pos h3]
  by_cases h4 : j.val < 776
  · simp only [dif_neg h1, dif_neg h2, dif_neg h3, dif_pos h4]
  · simp only [dif_neg h1, dif_neg h2, dif_neg h3, dif_neg h4, mul_zero, Finset.sum_const_zero, add_zero]

/-- The activation of the first window, from the blocks it reads. -/
theorem pay7_at (x : Vec Ideal S512x1024 .f32) (w : Vec Ideal S1024x512 .bf16) (b : Vec Ideal S1x512 .f32) (i j : Fin 512) :
    k0_pay7 (F := Ideal) x w b (ix2 i j) = gelu (∑ d : Fin 1024, x (ix2 i d) * w (ix2 d j) + b (ix2 0 j)) := by
  pointwise [k0_pay7, k0_pay6]
  generalize (∑ d : Fin 1024, x (ix2 i d) * w (ix2 d j) + b (ix2 0 j) : EReal) = u
  unfold gelu
  exact (congrArg (fun q : EReal => q * _) (mul_comm _ _)).trans (mul_assoc _ _ _)

/-- The gates, from the blocks a step reads. -/
theorem pay12_at (x : Vec Ideal S512x1024 .f32) (w : Vec Ideal S1024x1024 .bf16) (b : Vec Ideal S1x1024 .f32) (i : Fin 512) (j : Fin 1024) :
    k0_pay12 (F := Ideal) (k0_pay6 x) w b (ix2 i j) = silu (∑ d : Fin 1024, x (ix2 i d) * w (ix2 d j) + b (ix2 0 j)) := by
  pointwise [k0_pay12, k0_pay6]
  generalize (∑ d : Fin 1024, x (ix2 i d) * w (ix2 d j) + b (ix2 0 j) : EReal) = u
  exact congrArg (fun q : EReal => (u : EReal) * Ideal.div 1 (1 + Ideal.exp q)) (zero_sub (G := EReal) u)

/-- The reference's value columns with their rows of ones, at one place. -/
theorem ref56_at (x0 : Vec Ideal S32768x1024 .f32) (x1 : Vec Ideal S1024x3912 .f32) (x2 : Vec Ideal S3912 .f32) (b : Fin 8) (ch : Fin 16) (p : Fin 320) (s : Fin 256) :
   @Eq EReal (val_main_v56 (F := Ideal) x0 x1 x2 (ix4 b ch p s)) (if h : p.val % 80 < 64 then val_main_v3 (F := Ideal) x0 x1 x2 (ix2 ⟨(b.val * 16 + ch.val) * 256 + s.val, by omega⟩ ⟨2304 + (p.val / 80 * 64 + p.val % 80), by omega⟩) else 1) := by
  unfold val_main_v56 val_main_v55 val_main_v54 val_main_v53 val_main_v52 val_main_v51 val_main_v13
  generalize val_main_v3 (F := Ideal) x0 x1 x2 = u
  pointwise [val_main_cst_7]
  split
  · exact congrArg (fun q => u (ix2 q _)) (Fin.ext (by dsimp only; omega))
  · rfl
end Cert.In

end
-- ==== Proof.InFinal.lean ====
module

public import proofs.«01_k».proof.Defs
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.InCore
public import Idealize.ShloMosaic.Lib.Pipeline.ValueKit
public import Idealize.ShloMosaic.Lib.Pointwise
public import Idealize.ShloMosaic.Lib.StableHlo.ReadAt

@[expose] public section

set_option maxRecDepth 16384

noncomputable section

namespace Cert.In

open Cert.KernelInIdeal Cert.KernelInIdeal.Gen Idealize.ShloMosaic Idealize.ShloMosaic.TcCoe Idealize.SL.Sem
open Idealize.ShloMosaic.Pipeline (Dat)
open Cert.ReferenceInIdeal.Read

variable (m : (ℓ : Loc nD τ sig) → Buf (Elt Ideal) ℓ)

/-- The gated unit's columns after the run are the reference's. -/
theorem final7 (c : Dev nD) : (dats m 0 c).arrAt 7 (cfgs 0).N
    = val_main_v46 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  unfold outsAt0
  frame_out
  obtain ⟨r, x, hy⟩ : ∃ (r : Fin 512) (x : Fin 512), y = ix2 r x :=
    ⟨y 0, y 1, funext fun a => match a with | ⟨0, _⟩ => rfl | ⟨1, _⟩ => rfl⟩
  subst hy
  have he : ((View.whole main_v47_0).slice (win0_7.rect t)).emb (ix2 r x)
      = ix2 ⟨512 * t.val + r.val, by have h := t.isLt; have : cfg0.grid.N = 64 := rfl; omega⟩ x := by blk_ext [(idx t)]
  rw [he, ref46_at, pay7_at]
  refine congrArg gelu (Eq.trans ?_ (proj_at m c t r ⟨x.val, by omega⟩))
  pointwise []
  try rfl
/-- The band mixer's queries, keys and values after the run are the reference's. -/
theorem final8 (c : Dev nD) : (dats m 0 c).arrAt 8 (cfgs 0).N
    = val_main_v48 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  frame_out
  obtain ⟨r, x, hy⟩ : ∃ (r : Fin 512) (x : Fin 768), y = ix2 r x :=
    ⟨y 0, y 1, funext fun a => match a with | ⟨0, _⟩ => rfl | ⟨1, _⟩ => rfl⟩
  subst hy
  have he : ((View.whole main_v47_1).slice (win0_8.rect t)).emb (ix2 r x)
      = ix2 ⟨512 * t.val + r.val, by have h := t.isLt; have : cfg0.grid.N = 64 := rfl; omega⟩ x := by blk_ext [(idx t)]
  rw [he, ref48_at]
  pointwise [k0_pay8, k0_pay6]
  exact proj_at m c t r ⟨512 + x.val, by omega⟩
/-- The sparse mixer's queries and keys after the run are the reference's. -/
theorem final9 (c : Dev nD) : (dats m 0 c).arrAt 9 (cfgs 0).N
    = val_main_v50 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  frame_out
  obtain ⟨r, x, hy⟩ : ∃ (r : Fin 512) (x : Fin 512), y = ix2 r x :=
    ⟨y 0, y 1, funext fun a => match a with | ⟨0, _⟩ => rfl | ⟨1, _⟩ => rfl⟩
  subst hy
  have he : ((View.whole main_v47_2).slice (win0_9.rect t)).emb (ix2 r x)
      = ix2 ⟨512 * t.val + r.val, by have h := t.isLt; have : cfg0.grid.N = 64 := rfl; omega⟩ x := by blk_ext [(idx t)]
  rw [he, ref50_at]
  pointwise [k0_pay10, k0_pay9, k0_pay6]
  exact proj_at m c t r ⟨1280 + x.val, by omega⟩
/-- The memory mixer's queries after the run are the reference's. -/
theorem final14 (c : Dev nD) : (dats m 0 c).arrAt 14 (cfgs 0).N
    = val_main_v66 (F := Ideal) (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]
  frame_out
  obtain ⟨r, x, hy⟩ : ∃ (r : Fin 512) (x : Fin 256), y = ix2 r x :=
    ⟨y 0, y 1, funext fun a => match a with | ⟨0, _⟩ => rfl | ⟨1, _⟩ => rfl⟩
  subst hy
  have he : ((View.whole main_v47_7).slice (win0_14.rect t)).emb (ix2 r x)
      = ix2 ⟨512 * t.val + r.val, by have h := t.isLt; have : cfg0.grid.N = 64 := rfl; omega⟩ x := by blk_ext [(idx t)]
  rw [he, ref66_at]
  pointwise [k0_pay11, k0_pay6]
  exact proj_at m c t r ⟨1792 + x.val, by omega⟩
/-- The gates after the run are the reference's. -/
theorem final15 (c : Dev nD) : (dats m 0 c).arrAt 15 (cfgs 0).N
    = val_main_v65 (F := Ideal) (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  frame_out
  obtain ⟨r, x, hy⟩ : ∃ (r : Fin 512) (x : Fin 1024), y = ix2 r x :=
    ⟨y 0, y 1, funext fun a => match a with | ⟨0, _⟩ => rfl | ⟨1, _⟩ => rfl⟩
  subst hy
  have he : ((View.whole main_v47_8).slice (win0_15.rect t)).emb (ix2 r x)
      = ix2 ⟨512 * t.val + r.val, by have h := t.isLt; have : cfg0.grid.N = 64 := rfl; omega⟩ x := by blk_ext [(idx t)]
  rw [he, ref65_at, pay12_at]
  refine congrArg silu (Eq.trans ?_ (proj_at m c t r ⟨2048 + x.val, by omega⟩))
  pointwise []
  try rfl
/-- The index queries after the run are the reference's. -/
theorem final11 (c : Dev nD) : (dats m 0 c).arrAt 11 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  frame_out
  obtain ⟨r, x, hy⟩ : ∃ (r : Fin 512) (x : Fin 512), y = ix2 r x :=
    ⟨y 0, y 1, funext fun a => match a with | ⟨0, _⟩ => rfl | ⟨1, _⟩ => rfl⟩
  subst hy
  have he : ((View.whole main_v47_4).slice (win0_11.rect t)).emb (ix2 r x)
      = ix2 ⟨512 * t.val + r.val, by have h := t.isLt; have : cfg0.grid.N = 64 := rfl; omega⟩ x := by blk_ext [(idx t)]
  rw [he]
  pointwise [k0_pay14, k0_pay13, val_main_v15]
  refine (proj2_at m c t r ⟨x.val, by omega⟩).trans ?_
  rw [dif_pos (show x.val < 576 by omega)]
/-- The index keys after the run are the reference's. -/
theorem final12 (c : Dev nD) : (dats m 0 c).arrAt 12 (cfgs 0).N
    = val_main_v58 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  frame_out
  obtain ⟨r, x, hy⟩ : ∃ (r : Fin 512) (x : Fin 256), y = ix2 r x :=
    ⟨y 0, y 1, funext fun a => match a with | ⟨0, _⟩ => rfl | ⟨1, _⟩ => rfl⟩
  subst hy
  have he : ((View.whole main_v47_5).slice (win0_12.rect t)).emb (ix2 r x)
      = ix2 ⟨512 * t.val + r.val, by have h := t.isLt; have : cfg0.grid.N = 64 := rfl; omega⟩ x := by blk_ext [(idx t)]
  rw [he]
  unfold val_main_v58 val_main_v16
  pointwise [k0_pay15, val_main_v57, val_main_cst_8]
  refine (proj2_at m c t r ⟨512 + x.val, by omega⟩).trans ?_
  dsimp only
  by_cases h1 : x.val < 64
  · rw [dif_pos (show 512 + x.val < 576 by omega), dif_pos h1]
    exact congrArg (fun q => val_main_v3 (F := Ideal) (m ((c : Thread nD τ).loc main_arg0)) (m ((c : Thread nD τ).loc main_arg1)) (m ((c : Thread nD τ).loc main_arg2)) (ix2 _ q)) (Fin.ext (by dsimp only; omega))
  rw [dif_neg (show ¬ 512 + x.val < 576 by omega), dif_neg h1]
  by_cases h2 : x.val - 64 < 64
  · rw [dif_pos (show 512 + x.val < 704 by omega), dif_pos h2]
  rw [dif_neg h2]
  by_cases h3 : x.val - 64 - 64 < 64
  · rw [dif_pos (show 512 + x.val < 704 by omega), dif_pos h3]
  rw [dif_neg (show ¬ 512 + x.val < 704 by omega), dif_neg h3, dif_pos (show 512 + x.val < 768 by omega)]
  exact congrArg (fun q => val_main_v3 (F := Ideal) (m ((c : Thread nD τ).loc main_arg0)) (m ((c : Thread nD τ).loc main_arg1)) (m ((c : Thread nD τ).loc main_arg2)) (ix2 _ q)) (Fin.ext (by dsimp only; omega))
/-- The index weights after the run are the reference's. -/
theorem final13 (c : Dev nD) : (dats m 0 c).arrAt 13 (cfgs 0).N
    = val_main_v60 (F := Ideal) (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  frame_out
  obtain ⟨r, x, hy⟩ : ∃ (r : Fin 512) (x : Fin 128), y = ix2 r x :=
    ⟨y 0, y 1, funext fun a => match a with | ⟨0, _⟩ => rfl | ⟨1, _⟩ => rfl⟩
  subst hy
  have he : ((View.whole main_v47_6).slice (win0_13.rect t)).emb (ix2 r x)
      = ix2 ⟨512 * t.val + r.val, by have h := t.isLt; have : cfg0.grid.N = 64 := rfl; omega⟩ x := by blk_ext [(idx t)]
  rw [he]
  unfold val_main_v60 val_main_v17
  pointwise [k0_pay16, val_main_v59, val_main_cst_9]
  refine (proj2_at m c t r ⟨768 + x.val, by omega⟩).trans ?_
  dsimp only
  rw [dif_neg (show ¬ 768 + x.val < 576 by omega), dif_neg (show ¬ 768 + x.val < 704 by omega), dif_neg (show ¬ 768 + x.val < 768 by omega)]
  by_cases h1 : x.val < 8
  · rw [dif_pos (show 768 + x.val < 776 by omega), dif_pos h1]
    exact congrArg (fun q => val_main_v3 (F := Ideal) (m ((c : Thread nD τ).loc main_arg0)) (m ((c : Thread nD τ).loc main_arg1)) (m ((c : Thread nD τ).loc main_arg2)) (ix2 _ q)) (Fin.ext (by dsimp only; omega))
  · rw [dif_neg (show ¬ 768 + x.val < 776 by omega), dif_neg h1]
end Cert.In

end
-- ==== Proof.InCvt.lean ====
module

public import proofs.«01_k».proof.Defs
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.InCore
public import Idealize.ShloMosaic.Lib.Pipeline.ValueKit
public import Idealize.ShloMosaic.Lib.Pointwise
public import Idealize.ShloMosaic.Lib.StableHlo.ReadAt

@[expose] public section

set_option maxRecDepth 16384

noncomputable section

namespace Cert.In

open Cert.KernelInIdeal Cert.KernelInIdeal.Gen Idealize.ShloMosaic Idealize.ShloMosaic.TcCoe Idealize.SL.Sem
open Idealize.ShloMosaic.Pipeline (Dat)
open Cert.ReferenceInIdeal.Read

variable (m : (ℓ : Loc nD τ sig) → Buf (Elt Ideal) ℓ)

/-- What a step forms for one value column and one row is the reference's projection there. -/
theorem projT_at (c : Dev nD) (t : Fin cfg0.N) (i : Fin 512) (j : Fin 256) :
    @Eq EReal (∑ d : Fin 1024, @HMul.hMul EReal EReal EReal _ (iblk m c 5 t (ix2 j d)) (iblk m c 0 t (ix2 i d)) + iblk m c 6 t (ix2 j 0))
    (val_main_v3 (F := Ideal) (m ((c : Thread nD τ).loc main_arg0)) (m ((c : Thread nD τ).loc main_arg1)) (m ((c : Thread nD τ).loc main_arg2)) (ix2 ⟨512 * t.val + i.val, by have h := t.isLt; have : cfg0.N = 64 := rfl; omega⟩ ⟨2304 + j.val, by omega⟩)) := by
  rw [ref3_at]
  rw [← bt_at m c j]
  simp only [← wt_at m c]
  refine Eq.trans ?_ (congrArg (fun q : EReal => q + _) (Finset.sum_congr rfl fun d _ => mul_comm (G := EReal) _ _))
  blk_point [iblk, V_main_arg0, idx t]

/-- The transposed values with their rows of ones after the run are the reference's. -/
theorem final10 (c : Dev nD) : (dats m 0 c).arrAt 10 (cfgs 0).N
    = val_main_v56 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]
  frame_out
  obtain ⟨e, p, s, hy⟩ : ∃ (e : Fin 2) (p : Fin 320) (s : Fin 256), y = ix4 0 e p s :=
    ⟨y 1, y 2, y 3, funext fun a => match a with | ⟨0, _⟩ => Fin.ext (by have : (y 0).val < 1 := (y 0).isLt; show (y 0).val = 0; omega) | ⟨1, _⟩ => rfl | ⟨2, _⟩ => rfl | ⟨3, _⟩ => rfl⟩
  subst hy
  have he : ((View.whole main_v47_3).slice (win0_10.rect t)).emb (ix4 0 e p s)
      = ix4 ⟨t.val / 8, by have h := t.isLt; have : cfg0.grid.N = 64 := rfl; omega⟩ ⟨2 * (t.val % 8) + e.val, by omega⟩ p s := by blk_ext [(idx10 t)]
  rw [he, ref56_at]
  clear he
  canon_tiles x h using View.cover_of_tiledBy _ ![1, 1, 16, 256] (by sl_kernel_rfl) (ix4 0 e p s)
  all_goals
    have g1 : e.val = _ := h1
    have g2 : p.val = _ := h2
    have g3 : s.val = _ := h3
    clear h1 h2 h3
    open_payloads
    pointwise
  all_goals first
    | (rw [dif_neg (by omega)]
       first | done | rfl)
    | (rw [dif_pos (by omega)]
       change @Eq EReal _ _
       have q := projT_at m c t ⟨256 * e.val + s.val, by omega⟩ ⟨p.val / 80 * 64 + p.val % 80, by omega⟩
       have hR : (⟨512 * t.val + (256 * e.val + s.val), by have h := t.isLt; have : cfg0.grid.N = 64 := rfl; omega⟩ : Fin 32768) = ⟨(t.val / 8 * 16 + (2 * (t.val % 8) + e.val)) * 256 + s.val, by have h := t.isLt; have : cfg0.grid.N = 64 := rfl; omega⟩ := Fin.ext (by dsimp only; omega)
       dsimp only at q hR
       rw [hR] at q
       generalize val_main_v3 (F := Ideal) _ _ _ = V at q ⊢
       generalize iblk m c 5 t = B5 at q ⊢
       generalize iblk m c 0 t = B0 at q ⊢
       generalize iblk m c 6 t = B6 at q ⊢
       refine Eq.trans ?_ q
       exact congrArg₂ (fun a b : EReal => a + b)
         (Finset.sum_congr rfl fun d _ => congrArg₂ (fun a b : EReal => a * b)
           (congrArg (fun i => B5 (ix2 i d)) (Fin.ext (by dsimp only; omega)))
           (congrArg (fun i => B0 (ix2 i d)) (Fin.ext (by dsimp only; omega))))
         (congrArg (fun i => B6 (ix2 i 0)) (Fin.ext (by dsimp only; omega))))

end Cert.In

end
-- ==== Proof.InClaim.lean ====
module

public import proofs.«01_k».proof.Defs
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.InFinal
public import proofs.«01_k».proof.Proof.InCvt
public import Idealize.ShloMosaic.Adequacy
public import Idealize.ShloMosaic.Init

@[expose] public section

noncomputable section

namespace Cert.In

open Idealize.ShloMosaic Idealize.SL.Sem Cert.KernelIn

/-- The reference of the input projection leaves its arguments as they were; it declares no semaphore. -/
theorem ref_quiescent : Cert.quiescent_ReferenceInIdeal (hReferenceInIdeal := Cert.ReferenceInIdeal.Gen.facts) := fun m g _ =>
  (θ_run Cert.ReferenceInIdeal.defs _ _).mono
    (fun r h => ⟨fun c => (h c).2.2.2.2.2.2.2.2.2, sem_eq_zero_of_no_sems (by decide) r.2⟩)
    (Cert.ReferenceInIdeal.Value.run m g)

set_option maxHeartbeats 4000000 in
/-- The kernel's nine result arrays are the reference's. -/
theorem claim : Cert.algebraic_KernelInIdeal_ReferenceInIdeal (hKernelInIdeal := Cert.KernelInIdeal.Gen.facts)
    (hReferenceInIdeal := Cert.ReferenceInIdeal.Gen.facts) := by
  pair_intro
  · run_from Cert.KernelInIdeal.Value.run_blocks m g
  · run_from Cert.ReferenceInIdeal.Value.run m' g'
    · obtain ⟨a0, a1, a2⟩ := hagree c
      rw [Cert.ReferenceInIdeal.Read.val_main_v46_eq m' c, a0, a1, a2]
      exact (final7 m c).symm
    · refine (Cert.ReferenceInIdeal.Read.val_main_v48_eq _ _ _ ).trans ?_
      rw [(hagree c).2.2]
      exact (final8 m c).symm
    · refine (Cert.ReferenceInIdeal.Read.val_main_v50_eq _ _ _ ).trans ?_
      rw [(hagree c).2.2]
      exact (final9 m c).symm
    · refine (Cert.ReferenceInIdeal.Read.val_main_v56_eq _ _ _ ).trans ?_
      rw [(hagree c).2.2]
      exact (final10 m c).symm
    · refine (Cert.ReferenceInIdeal.Read.val_main_v15_eq _ _ _ ).trans ?_
      exact (final11 m c).symm
    · refine (Cert.ReferenceInIdeal.Read.val_main_v58_eq _ _ _ ).trans ?_
      rw [(hagree c).2.2]
      exact (final12 m c).symm
    · refine (Cert.ReferenceInIdeal.Read.val_main_v60_eq _ _ _ ).trans ?_
      rw [(hagree c).2.2]
      exact (final13 m c).symm
    · refine (Cert.ReferenceInIdeal.Read.val_main_v66_eq _ _ _ ).trans ?_
      exact (final14 m c).symm
    · obtain ⟨a0, a1, a2⟩ := hagree c
      rw [Cert.ReferenceInIdeal.Read.val_main_v65_eq m' c, a0, a1, a2]
      exact (final15 m c).symm

end Cert.In

end
-- ==== Proof.GmlpBlock.lean ====
module

public import proofs.«01_k».proof.Proof.BandRead
public import proofs.«01_k».proof.Proof.Gen.KernelGmlpIdeal.Frame
public import proofs.«01_k».proof.Proof.Gen.KernelGmlpIdeal.Value
public import Idealize.ShloMosaic.Lib.Pipeline.ValueKit
public import Idealize.ShloMosaic.Lib.Pointwise

@[expose] public section

set_option maxRecDepth 16384

noncomputable section

namespace Cert.Gmlp

open Cert.KernelGmlpIdeal Cert.KernelGmlpIdeal.Gen Idealize.ShloMosaic Idealize.ShloMosaic.TcCoe Idealize.SL.Sem
open Idealize.ShloMosaic.Pipeline (Dat)

abbrev TF : Type := Vec Ideal S128x256 .f32
abbrev TP : Type := Vec Ideal S1x256 .f32
abbrev TW : Type := Vec Ideal S1x128x128 .bf16

/-- The gating half of one block of 128 tokens after its layer norm, rounded for the matrix unit. -/
def lnV (v : TF) (g b : TP) : FVec Ideal S128x256 .bf16 :=
  k0_pay8 (k0_pay4 g) (k0_pay5 b) (k0_pay6 v) (k0_pay7 v)

/-- One head's mixing of the block's tokens, kept only in that head's 64 lanes. -/
def hmV (h : BitVec 32) (w : TW) (l : FVec Ideal S128x256 .bf16) : FVec Ideal S128x256 .f32 :=
  select (cmpi .eq k0_pay2 (broadcast S128x256 h))
    (matmul (φ₁ := .bf16) dot_S128x128_S128x256_S128x256_1_0_0_1_n_n none
      (shapeCast (α := Ideal .bf16) S128x128 w shapeCasts_S1x128x128_S128x128) l (constant S128x256 .f32 0x00000000#32))
    (broadcast S128x256 (Scalar.ofBits .f32 0x00000000#32))

/-- The bias and the four heads' mixings, summed in order. -/
def mixV (bs : TF) (w0 w1 w2 w3 : TW) (l : FVec Ideal S128x256 .bf16) : FVec Ideal S128x256 .f32 :=
  addf (addf (addf (addf (shapeCast S128x256 bs shapeCasts_S128x256_S128x256) (hmV 0#32 w0 l)) (hmV 1#32 w1 l))
    (hmV 2#32 w2 l)) (hmV 3#32 w3 l)

/-- What the kernel stores for one block of 128 tokens. -/
def blkV (u v gate : TF) (g b : TP) (bs : TF) (w0 w1 w2 w3 : TW) : FVec Ideal S128x256 .bf16 :=
  truncf .bf16 (mulf (mulf (shapeCast S128x256 u shapeCasts_S128x256_S128x256) (mixV bs w0 w1 w2 w3 (lnV v g b))) gate)
    bitsLt_bf16_f32

section Pieces
variable (u v gate : TF) (g b : TP) (bs : TF) (w0 w1 w2 w3 : TW)

/-- Block 0 of the tile is that function of its rows. -/
theorem piece0 : k0_pay11 (k0_pay2) (k0_pay3 u) (k0_pay8 (k0_pay4 g) (k0_pay5 b) (k0_pay6 v) (k0_pay7 v)) (k0_pay9 (k0_pay2) (k0_pay4 g) (k0_pay5 b) (k0_pay6 v) (k0_pay7 v) bs w0 w1) (k0_pay10 (k0_pay2) (k0_pay4 g) (k0_pay5 b) (k0_pay6 v) (k0_pay7 v) w2) w3 gate
    = blkV u v gate g b bs w0 w1 w2 w3 := rfl

/-- Block 1 of the tile is that function of its rows. -/
theorem piece1 : k0_pay20 (k0_pay2) (k0_pay12 u) (k0_pay18 (k0_pay2) (k0_pay13 g) (k0_pay14 b) (k0_pay15 v) (k0_pay16 v) bs w0 w1 w2) (k0_pay19 (k0_pay13 g) (k0_pay14 b) (k0_pay15 v) (k0_pay16 v) w3) gate
    = blkV u v gate g b bs w0 w1 w2 w3 := by
  dsimp only [blkV, mixV, hmV, lnV, k0_pay4, k0_pay5, k0_pay6, k0_pay7, k0_pay8, k0_pay12, k0_pay13, k0_pay14, k0_pay15, k0_pay16, k0_pay17, k0_pay18, k0_pay19, k0_pay20]

/-- Block 2 of the tile is that function of its rows. -/
theorem piece2 : k0_pay24 (k0_pay23 (k0_pay2) (k0_pay21 u) (k0_pay22 v g b) bs w0 w1 w2 w3) gate
    = blkV u v gate g b bs w0 w1 w2 w3 := by
  dsimp only [blkV, mixV, hmV, lnV, k0_pay4, k0_pay5, k0_pay6, k0_pay7, k0_pay8, k0_pay21, k0_pay22, k0_pay23, k0_pay24]

/-- Block 3 of the tile is that function of its rows. -/
theorem piece3 : k0_pay29 (k0_pay2) (k0_pay25 u) (k0_pay26 v g b) (k0_pay27 bs) (k0_pay28 w0) w1 w2 w3 gate
    = blkV u v gate g b bs w0 w1 w2 w3 := by
  dsimp only [blkV, mixV, hmV, lnV, k0_pay4, k0_pay5, k0_pay6, k0_pay7, k0_pay8, k0_pay25, k0_pay26, k0_pay27, k0_pay28, k0_pay29]

/-- Block 4 of the tile is that function of its rows. -/
theorem piece4 : k0_pay34 (k0_pay2) (k0_pay30 u) (k0_pay31 v g b) (k0_pay32 bs) (k0_pay33 (k0_pay2) v g b w0) w1 w2 w3 gate
    = blkV u v gate g b bs w0 w1 w2 w3 := by
  dsimp only [blkV, mixV, hmV, lnV, k0_pay4, k0_pay5, k0_pay6, k0_pay7, k0_pay8, k0_pay30, k0_pay31, k0_pay32, k0_pay33, k0_pay34]

/-- Block 5 of the tile is that function of its rows. -/
theorem piece5 : k0_pay39 (k0_pay2) (k0_pay35 u) (k0_pay36 v g b) (k0_pay37 (k0_pay2) v g b bs w0) (k0_pay38 v g b w1) w2 w3 gate
    = blkV u v gate g b bs w0 w1 w2 w3 := by
  dsimp only [blkV, mixV, hmV, lnV, k0_pay4, k0_pay5, k0_pay6, k0_pay7, k0_pay8, k0_pay35, k0_pay36, k0_pay37, k0_pay38, k0_pay39]

/-- Block 6 of the tile is that function of its rows. -/
theorem piece6 : k0_pay45 (k0_pay2) (k0_pay40 u) (k0_pay43 (k0_pay41 v) (k0_pay42 g) b) (k0_pay44 (k0_pay2) (k0_pay41 v) (k0_pay42 g) b bs w0 w1) w2 w3 gate
    = blkV u v gate g b bs w0 w1 w2 w3 := by
  dsimp only [blkV, mixV, hmV, lnV, k0_pay4, k0_pay5, k0_pay6, k0_pay7, k0_pay8, k0_pay40, k0_pay41, k0_pay42, k0_pay43, k0_pay44, k0_pay45]

/-- Block 7 of the tile is that function of its rows. -/
theorem piece7 : k0_pay55 (k0_pay2) (k0_pay46 u) (k0_pay51 (k0_pay47 v) (k0_pay48 g) (k0_pay49 b) (k0_pay50 v)) (k0_pay52 (k0_pay2) (k0_pay47 v) (k0_pay48 g) (k0_pay49 b) (k0_pay50 v) bs w0 w1) (k0_pay53 (k0_pay47 v) (k0_pay48 g) (k0_pay49 b) (k0_pay50 v) w2) k0_pay54 w3 gate
    = blkV u v gate g b bs w0 w1 w2 w3 := by
  dsimp only [blkV, mixV, hmV, lnV, k0_pay4, k0_pay5, k0_pay6, k0_pay7, k0_pay8, k0_pay46, k0_pay47, k0_pay48, k0_pay49, k0_pay50, k0_pay51, k0_pay52, k0_pay53, k0_pay54, k0_pay55]

/-- Block 8 of the tile is that function of its rows. -/
theorem piece8 : k0_pay63 (k0_pay2) (k0_pay56 u) (k0_pay61 (k0_pay57 g) (k0_pay58 b) (k0_pay59 v) (k0_pay60 v)) (k0_pay62 (k0_pay2) (k0_pay57 g) (k0_pay58 b) (k0_pay59 v) (k0_pay60 v) bs w0 w1 w2) w3 gate
    = blkV u v gate g b bs w0 w1 w2 w3 := by
  dsimp only [blkV, mixV, hmV, lnV, k0_pay4, k0_pay5, k0_pay6, k0_pay7, k0_pay8, k0_pay56, k0_pay57, k0_pay58, k0_pay59, k0_pay60, k0_pay61, k0_pay62, k0_pay63]

/-- Block 9 of the tile is that function of its rows. -/
theorem piece9 : k0_pay71 (k0_pay64 u) (k0_pay68 (k0_pay2) (k0_pay65 b) (k0_pay66 v g) bs w0 w1 w2) (k0_pay69 (k0_pay65 b) (k0_pay66 v g) w3) (k0_pay70 (k0_pay2)) (Scalar.ofBits .f32 0x00000000#32) gate
    = blkV u v gate g b bs w0 w1 w2 w3 := by
  dsimp only [blkV, mixV, hmV, lnV, k0_pay4, k0_pay5, k0_pay6, k0_pay7, k0_pay8, k0_pay64, k0_pay65, k0_pay66, k0_pay67, k0_pay68, k0_pay69, k0_pay70, k0_pay71]

/-- Block 10 of the tile is that function of its rows. -/
theorem piece10 : k0_pay76 (k0_pay75 (k0_pay2) (k0_pay72 u) (k0_pay73 v g b) (k0_pay74 bs) w0 w1 w2 w3 gate)
    = blkV u v gate g b bs w0 w1 w2 w3 := by
  dsimp only [blkV, mixV, hmV, lnV, k0_pay4, k0_pay5, k0_pay6, k0_pay7, k0_pay8, k0_pay72, k0_pay73, k0_pay74, k0_pay75, k0_pay76]

/-- Block 11 of the tile is that function of its rows. -/
theorem piece11 : k0_pay82 (k0_pay2) (k0_pay77 u) (k0_pay78 v g b) (k0_pay79 bs) (k0_pay80 v g b w0) k0_pay81 w1 w2 w3 gate
    = blkV u v gate g b bs w0 w1 w2 w3 := by
  dsimp only [blkV, mixV, hmV, lnV, k0_pay4, k0_pay5, k0_pay6, k0_pay7, k0_pay8, k0_pay77, k0_pay78, k0_pay79, k0_pay80, k0_pay81, k0_pay82]

/-- Block 12 of the tile is that function of its rows. -/
theorem piece12 : k0_pay86 (k0_pay2) (k0_pay83 u) (k0_pay84 v g b) (k0_pay85 (k0_pay2) v g b bs w0) w1 w2 w3 gate
    = blkV u v gate g b bs w0 w1 w2 w3 := by
  dsimp only [blkV, mixV, hmV, lnV, k0_pay4, k0_pay5, k0_pay6, k0_pay7, k0_pay8, k0_pay83, k0_pay84, k0_pay85, k0_pay86]

/-- Block 13 of the tile is that function of its rows. -/
theorem piece13 : k0_pay93 (k0_pay2) (k0_pay87 u) (k0_pay89 (k0_pay88 v) g b) (k0_pay90 (k0_pay2) (k0_pay88 v) g b bs w0) (k0_pay91 (k0_pay88 v) g b w1) (k0_pay92 (k0_pay2)) (Scalar.ofBits .f32 0x00000000#32) w2 w3 gate
    = blkV u v gate g b bs w0 w1 w2 w3 := by
  dsimp only [blkV, mixV, hmV, lnV, k0_pay4, k0_pay5, k0_pay6, k0_pay7, k0_pay8, k0_pay87, k0_pay88, k0_pay89, k0_pay90, k0_pay91, k0_pay92, k0_pay93]

/-- Block 14 of the tile is that function of its rows. -/
theorem piece14 : k0_pay102 (k0_pay2) (k0_pay94 u) (k0_pay99 (k0_pay95 v) (k0_pay96 g) (k0_pay97 b) (k0_pay98 v)) (k0_pay100 (k0_pay2) (k0_pay95 v) (k0_pay96 g) (k0_pay97 b) (k0_pay98 v) bs w0 w1) (k0_pay101 w2) w3 gate
    = blkV u v gate g b bs w0 w1 w2 w3 := by
  dsimp only [blkV, mixV, hmV, lnV, k0_pay4, k0_pay5, k0_pay6, k0_pay7, k0_pay8, k0_pay94, k0_pay95, k0_pay96, k0_pay97, k0_pay98, k0_pay99, k0_pay100, k0_pay101, k0_pay102]

/-- Block 15 of the tile is that function of its rows. -/
theorem piece15 : k0_pay1 (k0_pay2) (k0_pay103 u) (k0_pay108 (k0_pay104 g) (k0_pay105 b) (k0_pay106 v) (k0_pay107 v)) (k0_pay109 (k0_pay2) (k0_pay104 g) (k0_pay105 b) (k0_pay106 v) (k0_pay107 v) bs w0 w1) (k0_pay110 (k0_pay2) (k0_pay104 g) (k0_pay105 b) (k0_pay106 v) (k0_pay107 v) w2) w3 gate
    = blkV u v gate g b bs w0 w1 w2 w3 := by
  dsimp only [blkV, mixV, hmV, lnV, k0_pay1, k0_pay4, k0_pay5, k0_pay6, k0_pay7, k0_pay8, k0_pay103, k0_pay104, k0_pay105, k0_pay106, k0_pay107, k0_pay108, k0_pay109, k0_pay110]

end Pieces

/-- What the kernel leaves in the result's window: one such block for every 128 rows of the tile. -/
theorem out_eq (x0 : Vec Ideal S2048x512 .f32) (x1 : Vec Ideal S2048x256 .f32) (x2 x3 : Vec Ideal S1x256 .f32) (x4 : Vec Ideal S4x128x128 .bf16) (x5 : Vec Ideal S128x256 .f32) :
    out0_6 x0 x1 x2 x3 x4 x5 = View.canon [⟨r0_53, blkV (View.ld x0 r0_51) (View.ld x0 r0_52) (View.ld x1 r0_53) (View.ld x2 r0_2) (View.ld x3 r0_2) (View.ld x5 r0_3) (View.ld x4 r0_4) (View.ld x4 r0_5) (View.ld x4 r0_6) (View.ld x4 r0_7)⟩,
      ⟨r0_50, blkV (View.ld x0 r0_48) (View.ld x0 r0_49) (View.ld x1 r0_50) (View.ld x2 r0_2) (View.ld x3 r0_2) (View.ld x5 r0_3) (View.ld x4 r0_4) (View.ld x4 r0_5) (View.ld x4 r0_6) (View.ld x4 r0_7)⟩,
      ⟨r0_47, blkV (View.ld x0 r0_45) (View.ld x0 r0_46) (View.ld x1 r0_47) (View.ld x2 r0_2) (View.ld x3 r0_2) (View.ld x5 r0_3) (View.ld x4 r0_4) (View.ld x4 r0_5) (View.ld x4 r0_6) (View.ld x4 r0_7)⟩,
      ⟨r0_44, blkV (View.ld x0 r0_42) (View.ld x0 r0_43) (View.ld x1 r0_44) (View.ld x2 r0_2) (View.ld x3 r0_2) (View.ld x5 r0_3) (View.ld x4 r0_4) (View.ld x4 r0_5) (View.ld x4 r0_6) (View.ld x4 r0_7)⟩,
      ⟨r0_41, blkV (View.ld x0 r0_39) (View.ld x0 r0_40) (View.ld x1 r0_41) (View.ld x2 r0_2) (View.ld x3 r0_2) (View.ld x5 r0_3) (View.ld x4 r0_4) (View.ld x4 r0_5) (View.ld x4 r0_6) (View.ld x4 r0_7)⟩,
      ⟨r0_38, blkV (View.ld x0 r0_36) (View.ld x0 r0_37) (View.ld x1 r0_38) (View.ld x2 r0_2) (View.ld x3 r0_2) (View.ld x5 r0_3) (View.ld x4 r0_4) (View.ld x4 r0_5) (View.ld x4 r0_6) (View.ld x4 r0_7)⟩,
      ⟨r0_35, blkV (View.ld x0 r0_33) (View.ld x0 r0_34) (View.ld x1 r0_35) (View.ld x2 r0_2) (View.ld x3 r0_2) (View.ld x5 r0_3) (View.ld x4 r0_4) (View.ld x4 r0_5) (View.ld x4 r0_6) (View.ld x4 r0_7)⟩,
      ⟨r0_32, blkV (View.ld x0 r0_30) (View.ld x0 r0_31) (View.ld x1 r0_32) (View.ld x2 r0_2) (View.ld x3 r0_2) (View.ld x5 r0_3) (View.ld x4 r0_4) (View.ld x4 r0_5) (View.ld x4 r0_6) (View.ld x4 r0_7)⟩,
      ⟨r0_29, blkV (View.ld x0 r0_27) (View.ld x0 r0_28) (View.ld x1 r0_29) (View.ld x2 r0_2) (View.ld x3 r0_2) (View.ld x5 r0_3) (View.ld x4 r0_4) (View.ld x4 r0_5) (View.ld x4 r0_6) (View.ld x4 r0_7)⟩,
      ⟨r0_26, blkV (View.ld x0 r0_24) (View.ld x0 r0_25) (View.ld x1 r0_26) (View.ld x2 r0_2) (View.ld x3 r0_2) (View.ld x5 r0_3) (View.ld x4 r0_4) (View.ld x4 r0_5) (View.ld x4 r0_6) (View.ld x4 r0_7)⟩,
      ⟨r0_23, blkV (View.ld x0 r0_21) (View.ld x0 r0_22) (View.ld x1 r0_23) (View.ld x2 r0_2) (View.ld x3 r0_2) (View.ld x5 r0_3) (View.ld x4 r0_4) (View.ld x4 r0_5) (View.ld x4 r0_6) (View.ld x4 r0_7)⟩,
      ⟨r0_20, blkV (View.ld x0 r0_18) (View.ld x0 r0_19) (View.ld x1 r0_20) (View.ld x2 r0_2) (View.ld x3 r0_2) (View.ld x5 r0_3) (View.ld x4 r0_4) (View.ld x4 r0_5) (View.ld x4 r0_6) (View.ld x4 r0_7)⟩,
      ⟨r0_17, blkV (View.ld x0 r0_15) (View.ld x0 r0_16) (View.ld x1 r0_17) (View.ld x2 r0_2) (View.ld x3 r0_2) (View.ld x5 r0_3) (View.ld x4 r0_4) (View.ld x4 r0_5) (View.ld x4 r0_6) (View.ld x4 r0_7)⟩,
      ⟨r0_14, blkV (View.ld x0 r0_12) (View.ld x0 r0_13) (View.ld x1 r0_14) (View.ld x2 r0_2) (View.ld x3 r0_2) (View.ld x5 r0_3) (View.ld x4 r0_4) (View.ld x4 r0_5) (View.ld x4 r0_6) (View.ld x4 r0_7)⟩,
      ⟨r0_11, blkV (View.ld x0 r0_9) (View.ld x0 r0_10) (View.ld x1 r0_11) (View.ld x2 r0_2) (View.ld x3 r0_2) (View.ld x5 r0_3) (View.ld x4 r0_4) (View.ld x4 r0_5) (View.ld x4 r0_6) (View.ld x4 r0_7)⟩,
      ⟨r0_8, blkV (View.ld x0 r0_0) (View.ld x0 r0_1) (View.ld x1 r0_8) (View.ld x2 r0_2) (View.ld x3 r0_2) (View.ld x5 r0_3) (View.ld x4 r0_4) (View.ld x4 r0_5) (View.ld x4 r0_6) (View.ld x4 r0_7)⟩] := by
  unfold out0_6 k0_pay140 k0_pay139 k0_pay138 k0_pay137 k0_pay136 k0_pay135 k0_pay134 k0_pay133 k0_pay132 k0_pay131 k0_pay130 k0_pay129 k0_pay128 k0_pay127 k0_pay126 k0_pay125 k0_pay124 k0_pay123 k0_pay122 k0_pay121 k0_pay120 k0_pay119 k0_pay118 k0_pay117 k0_pay116 k0_pay115 k0_pay114 k0_pay113 k0_pay112 k0_pay111
  rw [piece15, piece14, piece13, piece12, piece11, piece10, piece9, piece8, piece7, piece6, piece5, piece4, piece3, piece2, piece1, piece0]

end Cert.Gmlp

end
-- ==== Proof.GmlpRef.lean ====
module

public import proofs.«01_k».proof.Proof.GmlpBlock
public import proofs.«01_k».proof.Proof.Gen.ReferenceGmlpIdeal.Run
public import proofs.«01_k».proof.Proof.Gen.ReferenceGmlpIdeal.Read

@[expose] public section

set_option maxRecDepth 16384

noncomputable section

namespace Cert.Gmlp

open Cert.KernelGmlpIdeal Cert.KernelGmlpIdeal.Gen Idealize.ShloMosaic Idealize.ShloMosaic.TcCoe Idealize.SL.Sem
open Idealize.ShloMosaic.Pipeline (Dat)
open Cert.ReferenceGmlpIdeal.Read

/-- The layer norm of one row of 256 lanes, at one lane: the row's values, a scale and a shift. -/
def ln (u : Fin 256 → EReal) (g b : EReal) (j : Fin 256) : EReal :=
  (u j - Ideal.div (∑ k, u k) (Ideal.ofBits .f32 0x43800000#32))
      * Ideal.rsqrt (Ideal.div
          (∑ k, (u k - Ideal.div (∑ k, u k) (Ideal.ofBits .f32 0x43800000#32))
            * (u k - Ideal.div (∑ k, u k) (Ideal.ofBits .f32 0x43800000#32)))
          (Ideal.ofBits .f32 0x43800000#32) + Ideal.ofBits .f32 0x3727C5AC#32)
      * g + b

section Kernel

/-- The kernel's layer norm at one place. -/
theorem lnV_at (v : TF) (g b : TP) (r : Fin 128) (c : Fin 256) :
    lnV v g b (ix2 r c) = ln (fun k => v (ix2 r k)) (g (ix2 0 c)) (b (ix2 0 c)) c := by
  pointwise [lnV, k0_pay8, k0_pay7, k0_pay6, k0_pay5, k0_pay4]
  rfl

/-- The head a lane belongs to. -/
theorem lane_at (r : Fin 128) (c : Fin 256) : k0_pay2 (ix2 r c) = BitVec.ofNat 32 (c.val / 64) := by
  pointwise [k0_pay2]
  revert c
  decide +kernel

/-- One head's mixing at one place: a sum over the block's tokens in the head's own lanes, zero elsewhere. -/
theorem hmV_at (h : Fin 4) (w : TW) (l : FVec Ideal S128x256 .bf16) (r : Fin 128) (c : Fin 256) :
    @Eq EReal (hmV (BitVec.ofNat 32 h.val) w l (ix2 r c))
      (if c.val / 64 = h.val then ∑ s : Fin 128, @HMul.hMul EReal EReal EReal _ (w (ix3 0 r s)) (l (ix2 s c)) else 0) := by
  pointwise [hmV]
  rw [lane_at]
  exact Cert.Band.lane_sel h c _ _

/-- The bias plus the mixing of the lane's own head. -/
theorem mixV_at (bs : TF) (w0 w1 w2 w3 : TW) (l : FVec Ideal S128x256 .bf16) (r : Fin 128) (c : Fin 256) (W : Fin 4 → Fin 128 → EReal)
    (h0 : ∀ s, @Eq EReal (w0 (ix3 0 r s)) (W 0 s)) (h1 : ∀ s, @Eq EReal (w1 (ix3 0 r s)) (W 1 s))
    (h2 : ∀ s, @Eq EReal (w2 (ix3 0 r s)) (W 2 s)) (h3 : ∀ s, @Eq EReal (w3 (ix3 0 r s)) (W 3 s)) :
    @Eq EReal (mixV bs w0 w1 w2 w3 l (ix2 r c)) (@HAdd.hAdd EReal EReal EReal _ (bs (ix2 r c))
      (∑ s : Fin 128, @HMul.hMul EReal EReal EReal _ (W ⟨c.val / 64, by omega⟩ s) (l (ix2 s c)))) := by
  have e0 := hmV_at 0 w0 l r c
  have e1 := hmV_at 1 w1 l r c
  have e2 := hmV_at 2 w2 l r c
  have e3 := hmV_at 3 w3 l r c
  simp only [h0, h1, h2, h3] at e0 e1 e2 e3
  simp only [Fin.val_zero, Fin.val_one, Fin.val_two, show ((3 : Fin 4) : ℕ) = 3 from rfl] at e0 e1 e2 e3
  pointwise [mixV]
  rw [e0, e1, e2, e3]
  have hc : (⟨c.val / 64, by omega⟩ : Fin 4) = 0 ∨ (⟨c.val / 64, by omega⟩ : Fin 4) = 1 ∨ (⟨c.val / 64, by omega⟩ : Fin 4) = 2
      ∨ (⟨c.val / 64, by omega⟩ : Fin 4) = 3 := by
    have : ∀ h : Fin 4, h = 0 ∨ h = 1 ∨ h = 2 ∨ h = 3 := by decide
    exact this _
  rcases hc with hc | hc | hc | hc <;>
    · have hv := congrArg Fin.val hc
      simp only [Fin.val_zero, Fin.val_one, Fin.val_two, show ((3 : Fin 4) : ℕ) = 3 from rfl] at hv
      rw [hc, hv]
      simp

/-- A stored block at one place. -/
theorem blkV_at (u v gate : TF) (g b : TP) (bs : TF) (w0 w1 w2 w3 : TW) (r : Fin 128) (c : Fin 256) :
    @Eq EReal (blkV u v gate g b bs w0 w1 w2 w3 (ix2 r c))
      (@HMul.hMul EReal EReal EReal _ (@HMul.hMul EReal EReal EReal _ (u (ix2 r c)) (mixV bs w0 w1 w2 w3 (lnV v g b) (ix2 r c)))
        (gate (ix2 r c))) := by
  pointwise [blkV]

end Kernel

section Ref
variable (x0 x1 : FVec Ideal S8x4096x256 .f32) (x2 : FVec Ideal S32768x1024 .f32) (x3 x4 : FVec Ideal S256 .f32)
  (x5 : FVec Ideal S4x128x128 .f32) (x6 : FVec Ideal S4x128 .f32)

/-- The reference's layer norm at one place. -/
theorem ref23_at (B : Fin 8) (P : Fin 4096) (c : Fin 256) : val_main_v23 (F := Ideal) x1 x3 x4 (ix3 B P c)
    = ln (fun k => x1 (ix3 B P k)) (x3 (ix1 c)) (x4 (ix1 c)) c := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

/-- The normed values, split into blocks of 128 tokens and heads of 64 lanes. -/
theorem ref33_at (B : Fin 8) (n : Fin 32) (s : Fin 128) (h : Fin 4) (d : Fin 64) :
    val_main_v33 (F := Ideal) x1 x3 x4 (ix5 B n s h d)
      = val_main_v23 (F := Ideal) x1 x3 x4 (ix3 B ⟨128 * n.val + s.val, by omega⟩ ⟨64 * h.val + d.val, by omega⟩) := by
  unfold val_main_v33
  generalize val_main_v23 (F := Ideal) x1 x3 x4 = X
  pointwise
  refine congrArg X ?_
  funext a
  match a with
  | ⟨0, _⟩ => rfl
  | ⟨1, _⟩ => exact Fin.ext (by dsimp; omega)
  | ⟨2, _⟩ => exact Fin.ext (by dsimp; omega)

/-- The reference's mixing at one place, with its bias. -/
theorem ref39_at (B : Fin 8) (n : Fin 32) (r : Fin 128) (h : Fin 4) (d : Fin 64) :
    @Eq EReal (val_main_v39 (F := Ideal) x1 x3 x4 x5 x6 (ix5 B n r h d))
      ((∑ s : Fin 128, @HMul.hMul EReal EReal EReal _ (val_main_v33 (F := Ideal) x1 x3 x4 (ix5 B n s h d))
          (val_main_v32 (F := Ideal) x5 (ix3 h r s))) + x6 (ix2 h r)) := by
  unfold val_main_v39 val_main_v35 val_main_v34
  generalize val_main_v33 (F := Ideal) x1 x3 x4 = X
  generalize val_main_v32 (F := Ideal) x5 = W
  pointwise [val_main_v38, val_main_v37, val_main_v36]

/-- The reference's result at row `R` and lane `c`. -/
theorem ref_at (R : Fin 32768) (c : Fin 256) :
    @Eq EReal (val_main_v45 (F := Ideal) x0 x1 x2 x3 x4 x5 x6 (ix2 R c))
      (@HMul.hMul EReal EReal EReal _ (@HMul.hMul EReal EReal EReal _ (x0 (ix3 ⟨R.val / 4096, by omega⟩ ⟨R.val % 4096, by omega⟩ c))
          (val_main_v39 (F := Ideal) x1 x3 x4 x5 x6 (ix5 ⟨R.val / 4096, by omega⟩ ⟨R.val % 4096 / 128, by omega⟩ ⟨R.val % 4096 % 128, by omega⟩
            ⟨c.val / 64, by omega⟩ ⟨c.val % 64, by omega⟩)))
        (x2 (ix2 R ⟨c.val, by omega⟩))) := by
  unfold val_main_v45 val_main_v44 val_main_v43 val_main_v42 val_main_v41 val_main_v40
  generalize val_main_v39 (F := Ideal) x1 x3 x4 x5 x6 = X
  pointwise

end Ref

end Cert.Gmlp

end
-- ==== Proof.GmlpFinal.lean ====
module

public import proofs.«01_k».proof.Proof.GmlpRef

@[expose] public section

set_option maxRecDepth 16384

noncomputable section

namespace Cert.Gmlp

open Cert.KernelGmlpIdeal Cert.KernelGmlpIdeal.Gen Idealize.ShloMosaic Idealize.ShloMosaic.TcCoe Idealize.SL.Sem
open Idealize.ShloMosaic.Pipeline (Dat)
open Cert.ReferenceGmlpIdeal.Read

/-- Both halves of the gMLP's input side by side, batch over batch. -/
def uvArr (u v : FVec Ideal S8x4096x256 .f32) : FVec Ideal S32768x512 .f32 :=
  shapeCast S32768x512 (concatenate S8x4096x512 2 [⟨S8x4096x256, u⟩, ⟨S8x4096x256, v⟩]
    concatenates_S8x4096x256_S8x4096x256_S8x4096x512_d2) shapeCasts_S8x4096x512_S32768x512

/-- The left half of a row. -/
theorem uvArr_l (u v : FVec Ideal S8x4096x256 .f32) (R : Fin 32768) (x : Fin 256) :
    uvArr u v (ix2 R ⟨x.val, by omega⟩) = u (ix3 ⟨R.val / 4096, by omega⟩ ⟨R.val % 4096, by omega⟩ x) := by
  pointwise [uvArr]

/-- The right half of a row. -/
theorem uvArr_r (u v : FVec Ideal S8x4096x256 .f32) (R : Fin 32768) (x : Fin 256) :
    uvArr u v (ix2 R ⟨256 + x.val, by omega⟩) = v (ix3 ⟨R.val / 4096, by omega⟩ ⟨R.val % 4096, by omega⟩ x) := by
  pointwise [uvArr]

/-- The bias repeated over each head's 64 lanes. -/
def bsArr (b : FVec Ideal S4x128 .f32) : FVec Ideal S128x256 .f32 :=
  shapeCast S128x256 (broadcastInDim S128x4x64 ![0, 1] bcast_S128x4_S128x4x64_0_1
    (transpose S128x4 [1, 0] b transposes_S4x128_S128x4_1_0)) shapeCasts_S128x4x64_S128x256

/-- The bias at a token and lane is that of the lane's head. -/
theorem bsArr_at (b : FVec Ideal S4x128 .f32) (r : Fin 128) (c : Fin 256) :
    bsArr b (ix2 r c) = b (ix2 ⟨c.val / 64, by omega⟩ r) := by
  pointwise [bsArr]

/-- The reference's masked weights, rounded for the matrix unit. -/
def wArr (w : FVec Ideal S4x128x128 .f32) : FVec Ideal S4x128x128 .bf16 :=
  truncf (F := Ideal) (s := S4x128x128) (φ := .f32) .bf16 (val_main_v32 (F := Ideal) w) bitsLt_bf16_f32

variable (m : (ℓ : Loc nD τ sig) → Buf (Elt Ideal) ℓ)

/-- The array of both halves the kernel is given. -/
theorem v1_eq (c : Dev nD) : V m c main_v1
    = uvArr (m ((c : Thread nD τ).loc main_arg0)) (m ((c : Thread nD τ).loc main_arg1)) := by
  unfold V
  simp only [hostOps0, hostOps0_1, hostOps0_2, hostOps0_3, hostOps0_4, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The bias array the kernel is given. -/
theorem v14_eq (c : Dev nD) : V m c main_v14 = bsArr (m ((c : Thread nD τ).loc main_arg6)) := by
  unfold V
  simp only [hostOps0, hostOps0_1, hostOps0_2, hostOps0_3, hostOps0_4, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The norm's scale as the kernel is given it. -/
theorem v15_eq (c : Dev nD) : V m c main_v15
    = shapeCast S1x256 (m ((c : Thread nD τ).loc main_arg3)) shapeCasts_S256_S1x256 := by
  unfold V
  simp only [hostOps0, hostOps0_1, hostOps0_2, hostOps0_3, hostOps0_4, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The norm's shift as the kernel is given it. -/
theorem v16_eq (c : Dev nD) : V m c main_v16
    = shapeCast S1x256 (m ((c : Thread nD τ).loc main_arg4)) shapeCasts_S256_S1x256 := by
  unfold V
  simp only [hostOps0, hostOps0_1, hostOps0_2, hostOps0_3, hostOps0_4, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- The masked weights as the kernel is given them: the reference's, rounded for the matrix unit. -/
theorem v11_eq (c : Dev nD) : V m c main_v11 = wArr (m ((c : Thread nD τ).loc main_arg5)) := by
  unfold V
  simp only [hostOps0, hostOps0_1, hostOps0_2, hostOps0_3, hostOps0_4, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- Which block of its array each window takes at each step. -/
theorem idx : ∀ t : Fin cfg0.N, win0_0.index t = ![t.val, 0] ∧ win0_1.index t = ![t.val, 0]
    ∧ win0_2.index t = ![0, 0] ∧ win0_3.index t = ![0, 0] ∧ win0_4.index t = ![0, 0, 0] ∧ win0_5.index t = ![0, 0]
    ∧ win0_6.index t = ![t.val, 0] :=
  (by decide +kernel : ∀ t : Fin grid0.N, _)

/-- The rows of both halves a step sees. -/
theorem in0_at (c : Dev nD) (t : Fin cfg0.N) (r : Fin 2048) (x : Fin 512) :
    iblk m c 0 t (ix2 r x) = uvArr (m ((c : Thread nD τ).loc main_arg0)) (m ((c : Thread nD τ).loc main_arg1))
      (ix2 ⟨2048 * t.val + r.val, by have := t.isLt; have : cfg0.N = 16 := rfl; omega⟩ x) := by
  rw [← v1_eq m c]
  blk_simp [iblk]
  generalize V m c main_v1 = X
  blk_ext [(idx t).1]

/-- The gates a step sees: its 2048 rows, columns 0 to 255. -/
theorem in1_at (c : Dev nD) (t : Fin cfg0.N) (r : Fin 2048) (x : Fin 256) :
    iblk m c 1 t (ix2 r x) = m ((c : Thread nD τ).loc main_arg2)
      (ix2 ⟨2048 * t.val + r.val, by have := t.isLt; have : cfg0.N = 16 := rfl; omega⟩ ⟨x.val, by omega⟩) := by
  blk_simp [iblk]
  rw [V_main_arg2 m c]
  blk_ext [(idx t).2.1]

/-- The norm's scale a step sees. -/
theorem in2_at (c : Dev nD) (t : Fin cfg0.N) (x : Fin 256) :
    @Eq EReal (iblk m c 2 t (ix2 0 x)) (m ((c : Thread nD τ).loc main_arg3) (ix1 x)) := by
  have e : shapeCast S1x256 (m ((c : Thread nD τ).loc main_arg3)) shapeCasts_S256_S1x256 (ix2 0 x)
      = m ((c : Thread nD τ).loc main_arg3) (ix1 x) := by pointwise
  rw [← e, ← v15_eq m c]
  blk_simp [iblk]
  generalize V m c main_v15 = X
  blk_ext [(idx t).2.2.1]

/-- The norm's shift a step sees. -/
theorem in3_at (c : Dev nD) (t : Fin cfg0.N) (x : Fin 256) :
    @Eq EReal (iblk m c 3 t (ix2 0 x)) (m ((c : Thread nD τ).loc main_arg4) (ix1 x)) := by
  have e : shapeCast S1x256 (m ((c : Thread nD τ).loc main_arg4)) shapeCasts_S256_S1x256 (ix2 0 x)
      = m ((c : Thread nD τ).loc main_arg4) (ix1 x) := by pointwise
  rw [← e, ← v16_eq m c]
  blk_simp [iblk]
  generalize V m c main_v16 = X
  blk_ext [(idx t).2.2.2.1]

/-- The masked weights a step sees. -/
theorem in4_at (c : Dev nD) (t : Fin cfg0.N) (h : Fin 4) (r s : Fin 128) :
    @Eq EReal (iblk m c 4 t (ix3 h r s)) (val_main_v32 (F := Ideal) (m ((c : Thread nD τ).loc main_arg5)) (ix3 h r s)) := by
  refine Eq.trans (b := wArr (m ((c : Thread nD τ).loc main_arg5)) (ix3 h r s)) ?_ rfl
  rw [← v11_eq m c]
  blk_simp [iblk]
  generalize V m c main_v11 = X
  blk_ext [(idx t).2.2.2.2.1]

/-- The bias a step sees. -/
theorem in5_at (c : Dev nD) (t : Fin cfg0.N) (r : Fin 128) (x : Fin 256) :
    iblk m c 5 t (ix2 r x) = bsArr (m ((c : Thread nD τ).loc main_arg6)) (ix2 r x) := by
  rw [← v14_eq m c]
  blk_simp [iblk]
  generalize V m c main_v14 = X
  blk_ext [(idx t).2.2.2.2.2.1]

/-- The result array's block of step `t` is rows `2048 * t` on. -/
theorem out_emb (t : Fin cfg0.N) (r : Fin 2048) (x : Fin 256) :
    ((View.whole main_v17).slice (win0_6.rect t)).emb (ix2 r x)
      = ix2 ⟨2048 * t.val + r.val, by have := t.isLt; have : cfg0.N = 16 := rfl; omega⟩ x := by
  blk_ext [(idx t).2.2.2.2.2.2]

/-- What the kernel stores for block `k` of step `T` is the reference's result at those rows. -/
theorem block_eq (x0 x1 : FVec Ideal S8x4096x256 .f32) (x2 : FVec Ideal S32768x1024 .f32) (x3 x4 : FVec Ideal S256 .f32)
    (x5 : FVec Ideal S4x128x128 .f32) (x6 : FVec Ideal S4x128 .f32)
    (T k : Fin 16) (u v gate : TF) (g b : TP) (bs : TF) (w0 w1 w2 w3 : TW) (r : Fin 128) (c : Fin 256)
    (hu : ∀ (s : Fin 128) x, u (ix2 s x) = uvArr x0 x1 (ix2 ⟨2048 * T.val + (128 * k.val + s.val), by omega⟩ ⟨x.val, by omega⟩))
    (hv : ∀ (s : Fin 128) x, v (ix2 s x) = uvArr x0 x1 (ix2 ⟨2048 * T.val + (128 * k.val + s.val), by omega⟩ ⟨256 + x.val, by omega⟩))
    (hg : ∀ (s : Fin 128) x, gate (ix2 s x) = x2 (ix2 ⟨2048 * T.val + (128 * k.val + s.val), by omega⟩ ⟨x.val, by omega⟩))
    (h2 : ∀ x, @Eq EReal (g (ix2 0 x)) (x3 (ix1 x))) (h3 : ∀ x, @Eq EReal (b (ix2 0 x)) (x4 (ix1 x)))
    (h5 : ∀ s x, bs (ix2 s x) = bsArr x6 (ix2 s x))
    (hw0 : ∀ s, @Eq EReal (w0 (ix3 0 r s)) (val_main_v32 (F := Ideal) x5 (ix3 0 r s)))
    (hw1 : ∀ s, @Eq EReal (w1 (ix3 0 r s)) (val_main_v32 (F := Ideal) x5 (ix3 1 r s)))
    (hw2 : ∀ s, @Eq EReal (w2 (ix3 0 r s)) (val_main_v32 (F := Ideal) x5 (ix3 2 r s)))
    (hw3 : ∀ s, @Eq EReal (w3 (ix3 0 r s)) (val_main_v32 (F := Ideal) x5 (ix3 3 r s))) :
    @Eq EReal (blkV u v gate g b bs w0 w1 w2 w3 (ix2 r c))
      (val_main_v45 (F := Ideal) x0 x1 x2 x3 x4 x5 x6 (ix2 ⟨2048 * T.val + (128 * k.val + r.val), by omega⟩ c)) := by
  rw [ref_at, blkV_at, hg, hu, uvArr_l]
  refine congrArg₂ (@HMul.hMul EReal EReal EReal _) (congrArg₂ (@HMul.hMul EReal EReal EReal _) rfl ?_) rfl
  rw [ref39_at, mixV_at bs w0 w1 w2 w3 (lnV v g b) r c (fun h s => val_main_v32 (F := Ideal) x5 (ix3 h r s)) hw0 hw1 hw2 hw3,
    h5, bsArr_at, add_comm]
  have hr : (⟨(2048 * T.val + (128 * k.val + r.val)) % 4096 % 128, by omega⟩ : Fin 128) = r := Fin.ext (by dsimp only; omega)
  dsimp only
  rw [hr]
  refine congrArg₂ (@HAdd.hAdd EReal EReal EReal _) (Finset.sum_congr rfl fun s _ => ?_) rfl
  rw [mul_comm, lnV_at, ref33_at, ref23_at]
  refine congrArg₂ (@HMul.hMul EReal EReal EReal _) ?_ rfl
  rw [h2, h3]
  have hc : (⟨64 * (c.val / 64) + c.val % 64, by omega⟩ : Fin 256) = c := Fin.ext (by dsimp only; omega)
  have hB : (⟨(2048 * T.val + (128 * k.val + r.val)) / 4096, by omega⟩ : Fin 8)
      = ⟨(2048 * T.val + (128 * k.val + s.val)) / 4096, by omega⟩ := Fin.ext (by dsimp only; omega)
  have hP : (⟨128 * ((2048 * T.val + (128 * k.val + r.val)) % 4096 / 128) + s.val, by omega⟩ : Fin 4096)
      = ⟨(2048 * T.val + (128 * k.val + s.val)) % 4096, by omega⟩ := Fin.ext (by dsimp only; omega)
  dsimp only
  rw [hc, hB, hP]
  simp only [hv, uvArr_r]

/-- The same from the blocks a step reads, at an index of the tile `k` of the step's stores. -/
theorem tile_eq (a0 a1 : FVec Ideal S8x4096x256 .f32) (a2 : FVec Ideal S32768x1024 .f32) (a3 a4 : FVec Ideal S256 .f32)
    (a5 : FVec Ideal S4x128x128 .f32) (a6 : FVec Ideal S4x128 .f32) (T : Fin 16)
    (x0 : Vec Ideal S2048x512 .f32) (x1 : Vec Ideal S2048x256 .f32) (x2 x3 : Vec Ideal S1x256 .f32)
    (x4 : Vec Ideal S4x128x128 .bf16) (x5 : Vec Ideal S128x256 .f32)
    (i0 : ∀ (r : Fin 2048) x, x0 (ix2 r x) = uvArr a0 a1 (ix2 ⟨2048 * T.val + r.val, by omega⟩ x))
    (i1 : ∀ (r : Fin 2048) (x : Fin 256), x1 (ix2 r x) = a2 (ix2 ⟨2048 * T.val + r.val, by omega⟩ ⟨x.val, by omega⟩))
    (i2 : ∀ x, @Eq EReal (x2 (ix2 0 x)) (a3 (ix1 x))) (i3 : ∀ x, @Eq EReal (x3 (ix2 0 x)) (a4 (ix1 x)))
    (i4 : ∀ h r s, @Eq EReal (x4 (ix3 h r s)) (val_main_v32 (F := Ideal) a5 (ix3 h r s)))
    (i5 : ∀ r x, x5 (ix2 r x) = bsArr a6 (ix2 r x))
    (k : ℕ) (hk : k < 16) (U V G : TF)
    (hU : ∀ (s : Fin 128) (x : Fin 256), U (ix2 s x) = x0 (ix2 ⟨128 * k + s.val, by omega⟩ ⟨x.val, by omega⟩))
    (hV : ∀ (s : Fin 128) (x : Fin 256), V (ix2 s x) = x0 (ix2 ⟨128 * k + s.val, by omega⟩ ⟨256 + x.val, by omega⟩))
    (hG : ∀ (s : Fin 128) (x : Fin 256), G (ix2 s x) = x1 (ix2 ⟨128 * k + s.val, by omega⟩ x))
    (z : S128x256.Idx) (r : Fin 2048) (x : Fin 256) (h0 : r.val = 128 * k + (z 0).val) (h1 : x.val = (z 1).val) :
    @Eq EReal (blkV U V G (View.ld x2 r0_2) (View.ld x3 r0_2) (View.ld x5 r0_3) (View.ld x4 r0_4) (View.ld x4 r0_5)
        (View.ld x4 r0_6) (View.ld x4 r0_7) z)
      (val_main_v45 (F := Ideal) a0 a1 a2 a3 a4 a5 a6 (ix2 ⟨2048 * T.val + r.val, by omega⟩ x)) := by
  obtain ⟨p, q, hz⟩ : ∃ (p : Fin 128) (q : Fin 256), z = ix2 p q :=
    ⟨z 0, z 1, funext fun a => match a with | ⟨0, _⟩ => rfl | ⟨1, _⟩ => rfl⟩
  subst hz
  have hb : 128 * k + p.val < 2048 := by
    clear h0 h1
    omega
  have e0 : r = ⟨128 * k + p.val, hb⟩ := Fin.ext h0
  have e1 : x = q := Fin.ext h1
  subst e0 e1
  have l2 : View.ld x2 r0_2 = x2 := View.ld_unit_zero (by decide) _ x2
  have l3 : View.ld x3 r0_2 = x3 := View.ld_unit_zero (by decide) _ x3
  have l5 : View.ld x5 r0_3 = x5 := View.ld_unit_zero (by decide) _ x5
  rw [l2, l3, l5]
  refine block_eq a0 a1 a2 a3 a4 a5 a6 T ⟨k, hk⟩ U V G x2 x3 x5 _ _ _ _ p x (fun s x => (hU s x).trans (i0 _ _))
    (fun s x => (hV s x).trans (i0 _ _)) (fun s x => (hG s x).trans (i1 _ _)) i2 i3 i5 ?_ ?_ ?_ ?_ <;>
    intro s
  · exact Eq.trans (View.ld_unit_apply_of _ _ _ _ _ (ix3 0 p s) fun a => match a with
      | ⟨0, _⟩ => rfl | ⟨1, _⟩ => (Nat.zero_add _).symm | ⟨2, _⟩ => (Nat.zero_add _).symm) (i4 0 p s)
  · exact Eq.trans (View.ld_unit_apply_of _ _ _ _ _ (ix3 1 p s) fun a => match a with
      | ⟨0, _⟩ => rfl | ⟨1, _⟩ => (Nat.zero_add _).symm | ⟨2, _⟩ => (Nat.zero_add _).symm) (i4 1 p s)
  · exact Eq.trans (View.ld_unit_apply_of _ _ _ _ _ (ix3 2 p s) fun a => match a with
      | ⟨0, _⟩ => rfl | ⟨1, _⟩ => (Nat.zero_add _).symm | ⟨2, _⟩ => (Nat.zero_add _).symm) (i4 2 p s)
  · exact Eq.trans (View.ld_unit_apply_of _ _ _ _ _ (ix3 3 p s) fun a => match a with
      | ⟨0, _⟩ => rfl | ⟨1, _⟩ => (Nat.zero_add _).symm | ⟨2, _⟩ => (Nat.zero_add _).symm) (i4 3 p s)

/-- The result array after the run is the reference's result. -/
theorem final (c : Dev nD) : (dats m 0 c).arrAt 6 (cfgs 0).N
    = val_main_v45 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 6 _ (by decide +kernel) fun t _ y => ?_
  blk_simp
  rw [after0_6]
  rw [out_eq]
  obtain ⟨r, x, hy⟩ : ∃ (r : Fin 2048) (x : Fin 256), y = ix2 r x :=
    ⟨y 0, y 1, funext fun a => match a with | ⟨0, _⟩ => rfl | ⟨1, _⟩ => rfl⟩
  rw [hy]
  refine Eq.trans ?_ (congrArg _ (out_emb t r x).symm)
  have i0 := in0_at m c t
  have i1 := in1_at m c t
  have i2 := in2_at m c t
  have i3 := in3_at m c t
  have i4 := in4_at m c t
  have i5 := in5_at m c t
  generalize iblk m c 0 t = x0 at i0 ⊢
  generalize iblk m c 1 t = x1 at i1 ⊢
  generalize iblk m c 2 t = x2 at i2 ⊢
  generalize iblk m c 3 t = x3 at i3 ⊢
  generalize iblk m c 4 t = x4 at i4 ⊢
  generalize iblk m c 5 t = x5 at i5 ⊢
  generalize m ((c : Thread nD τ).loc main_arg0) = a0 at i0 ⊢
  generalize m ((c : Thread nD τ).loc main_arg1) = a1 at i0 ⊢
  generalize m ((c : Thread nD τ).loc main_arg2) = a2 at i1 ⊢
  generalize m ((c : Thread nD τ).loc main_arg3) = a3 at i2 ⊢
  generalize m ((c : Thread nD τ).loc main_arg4) = a4 at i3 ⊢
  generalize m ((c : Thread nD τ).loc main_arg5) = a5 at i4 ⊢
  generalize m ((c : Thread nD τ).loc main_arg6) = a6 at i5 ⊢
  canon_tiles z h using View.cover_of_tiledBy _ ![128, 256] (by sl_kernel_rfl) (ix2 r x)
  · exact tile_eq a0 a1 a2 a3 a4 a5 a6 t x0 x1 x2 x3 x4 x5 i0 i1 i2 i3 i4 i5 15 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 14 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 13 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 12 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 11 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 10 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 9 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 8 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 7 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 6 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 5 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 4 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 3 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 2 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 1 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x h0 h1
  · exact tile_eq a0 a1 a2 a3 a4 a5 a6 t x0 x1 x2 x3 x4 x5 i0 i1 i2 i3 i4 i5 0 (by decide) _ _ _
      (fun s x => View.ld_unit_apply_of _ _ _ _ _ _ fun a => match a with | ⟨0, _⟩ => rfl | ⟨1, _⟩ => (Nat.zero_add _).symm)
      (fun s x => View.ld_unit_apply_of _ _ _ _ _ _ fun a => match a with | ⟨0, _⟩ => rfl | ⟨1, _⟩ => rfl)
      (fun s x => View.ld_unit_apply_of _ _ _ _ _ _ fun a => match a with | ⟨0, _⟩ => rfl | ⟨1, _⟩ => (Nat.zero_add _).symm) z r x (h0.trans (Nat.zero_add _).symm) h1

end Cert.Gmlp

end
-- ==== Proof.GmlpClaim.lean ====
module

public import proofs.«01_k».proof.Defs
public import proofs.«01_k».proof.Proof.Gen.KernelGmlp.Frame
public import proofs.«01_k».proof.Proof.Gen.KernelGmlpIdeal.Frame
public import proofs.«01_k».proof.Proof.Gen.KernelGmlpIdeal.Value
public import proofs.«01_k».proof.Proof.Gen.ReferenceGmlpIdeal.Run
public import proofs.«01_k».proof.Proof.Gen.ReferenceGmlpIdeal.Read
public import proofs.«01_k».proof.Proof.GmlpFinal
public import Idealize.ShloMosaic.Adequacy
public import Idealize.ShloMosaic.Init

@[expose] public section

noncomputable section

namespace Cert.Gmlp

open Idealize.ShloMosaic Idealize.SL.Sem Cert.KernelGmlp

/-- The reference of the gMLP leaves its arguments as they were; it declares no semaphore. -/
theorem ref_quiescent : Cert.quiescent_ReferenceGmlpIdeal (hReferenceGmlpIdeal := Cert.ReferenceGmlpIdeal.Gen.facts) := fun m g _ =>
  (θ_run Cert.ReferenceGmlpIdeal.defs _ _).mono
    (fun r h => ⟨fun c => (h c).2, sem_eq_zero_of_no_sems (by decide) r.2⟩)
    (Cert.ReferenceGmlpIdeal.Value.run m g)

/-- The kernel's result rows are the reference's. -/
theorem claim : Cert.algebraic_KernelGmlpIdeal_ReferenceGmlpIdeal
    (hKernelGmlpIdeal := Cert.KernelGmlpIdeal.Gen.facts) (hReferenceGmlpIdeal := Cert.ReferenceGmlpIdeal.Gen.facts) := by
  pair_intro
  · run_from Cert.KernelGmlpIdeal.Value.run_blocks m g
  · run_from Cert.ReferenceGmlpIdeal.Value.run m' g'
    obtain ⟨a0, a1, a2, a3, a4, a5, a6⟩ := hagree c
    rw [Cert.ReferenceGmlpIdeal.Read.val_main_v45_eq m' c, a0, a1, a2, a3, a4, a5, a6]
    exact (final m c).symm

end Cert.Gmlp

end
-- ==== Proof.MemkvFinal.lean ====
module

public import proofs.«01_k».proof.Defs
public import proofs.«01_k».proof.Proof.Gen.KernelMemkv.Frame
public import proofs.«01_k».proof.Proof.Gen.KernelMemkvIdeal.Frame
public import proofs.«01_k».proof.Proof.Gen.KernelMemkvIdeal.Value
public import proofs.«01_k».proof.Proof.Gen.ReferenceMemkvIdeal.Run
public import proofs.«01_k».proof.Proof.Gen.ReferenceMemkvIdeal.Read
public import Idealize.ShloMosaic.Lib.Pipeline.ValueKit
public import Idealize.ShloMosaic.Lib.Pointwise

@[expose] public section

set_option maxRecDepth 16384

noncomputable section

namespace Cert.Memkv

open Cert.KernelMemkvIdeal Cert.KernelMemkvIdeal.Gen Idealize.ShloMosaic Idealize.ShloMosaic.TcCoe Idealize.SL.Sem
open Idealize.ShloMosaic.Pipeline (Dat)
open Cert.ReferenceMemkvIdeal.Read

variable (m : (ℓ : Loc nD τ sig) → Buf (Elt Ideal) ℓ)

/-- Which block of its array each window takes at each step. -/
theorem idx : ∀ t : Fin cfg0.N, win0_0.index t = ![t.val, 0, 0] ∧ win0_1.index t = ![0, 0] ∧ win0_2.index t = ![t.val, 0, 0]
    ∧ win0_3.index t = ![t.val, 0, 0] :=
  (by decide +kernel : ∀ t : Fin grid0.N, _)

/-- The keys of the memory tokens after the run are the reference's. -/
theorem final_k (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay2, k0_pay1, val_main_v3, val_main_v1, val_main_v0]
  blk_point [iblk, V, idx t]

/-- The values of the memory tokens after the run are the reference's. -/
theorem final_v (c : Dev nD) : (dats m 0 c).arrAt 3 (cfgs 0).N
    = val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay3, k0_pay1, val_main_v4, val_main_v2, val_main_v0]
  blk_point [iblk, V, idx t]

end Cert.Memkv

end
-- ==== Proof.MemkvClaim.lean ====
module

public import proofs.«01_k».proof.Defs
public import proofs.«01_k».proof.Proof.Gen.KernelMemkv.Frame
public import proofs.«01_k».proof.Proof.Gen.KernelMemkvIdeal.Frame
public import proofs.«01_k».proof.Proof.Gen.KernelMemkvIdeal.Value
public import proofs.«01_k».proof.Proof.Gen.ReferenceMemkvIdeal.Run
public import proofs.«01_k».proof.Proof.Gen.ReferenceMemkvIdeal.Read
public import proofs.«01_k».proof.Proof.MemkvFinal
public import Idealize.ShloMosaic.Adequacy
public import Idealize.ShloMosaic.Init

@[expose] public section

noncomputable section

namespace Cert.Memkv

open Idealize.ShloMosaic Idealize.SL.Sem Cert.KernelMemkv

/-- The reference of the memory keys and values leaves its arguments as they were; it declares no semaphore. -/
theorem ref_quiescent : Cert.quiescent_ReferenceMemkvIdeal (hReferenceMemkvIdeal := Cert.ReferenceMemkvIdeal.Gen.facts) := fun m g _ =>
  (θ_run Cert.ReferenceMemkvIdeal.defs _ _).mono
    (fun r h => ⟨fun c => (h c).2.2, sem_eq_zero_of_no_sems (by decide) r.2⟩)
    (Cert.ReferenceMemkvIdeal.Value.run m g)

/-- The kernel's two result arrays, memory keys and memory values, are the reference's. -/
theorem claim : Cert.algebraic_KernelMemkvIdeal_ReferenceMemkvIdeal (hKernelMemkvIdeal := Cert.KernelMemkvIdeal.Gen.facts)
    (hReferenceMemkvIdeal := Cert.ReferenceMemkvIdeal.Gen.facts) := by
  pair_intro
  · run_from Cert.KernelMemkvIdeal.Value.run_blocks m g
  · run_from Cert.ReferenceMemkvIdeal.Value.run m' g'
    · exact (Cert.ReferenceMemkvIdeal.Read.val_main_v3_eq _ _ ).trans (final_k m c).symm
    · exact (Cert.ReferenceMemkvIdeal.Read.val_main_v4_eq _ _ ).trans (final_v m c).symm

end Cert.Memkv

end
-- ==== Proof.MemBlock.lean ====
module

public import proofs.«01_k».proof.Proof.BandEq
public import proofs.«01_k».proof.Proof.Gen.KernelMemIdeal.Frame
public import proofs.«01_k».proof.Proof.Gen.KernelMemIdeal.Value
public import Idealize.ShloMosaic.Lib.Pipeline.ValueKit
public import Idealize.ShloMosaic.Lib.Pointwise

@[expose] public section

set_option maxRecDepth 16384

noncomputable section

namespace Cert.Mem

open Cert.KernelMemIdeal Cert.KernelMemIdeal.Gen Idealize.ShloMosaic Idealize.ShloMosaic.TcCoe Idealize.SL.Sem
open Idealize.ShloMosaic.Pipeline (Dat)

abbrev QB : Type := Vec Ideal S2048x256 .bf16
abbrev QF : Type := Vec Ideal S2048x256 .f32
abbrev KB : Type := Vec Ideal S1x256x256 .bf16

/-- A block of memory rows as a matrix. -/
def flat (x : KB) : FVec Ideal S256x256 .bf16 := shapeCast S256x256 x shapeCasts_S1x256x256_S256x256

/-- The query rows with every lane outside head `h` set to zero. -/
def qh (q : QB) (h : BitVec 32) : FVec Ideal S2048x256 .bf16 :=
  select (cmpi .eq k0_pay3 (broadcast S2048x256 h)) (k0_pay2 (F := Ideal) q)
    (broadcast S2048x256 (Scalar.ofBits .bf16 0x0000#16))

/-- The scores of head `h` against the memory's keys. -/
def sc (q : QB) (k : KB) (h : BitVec 32) : FVec Ideal S2048x256 .f32 :=
  matmul dot_S2048x256_S256x256_S2048x256_1_1_0_0_n_n none (qh q h)
    (flat k) (constant S2048x256 .f32 0x00000000#32)

/-- A row's greatest score, as a column. -/
def mx (s : FVec Ideal S2048x256 .f32) : FVec Ideal S2048x1 .f32 :=
  shapeCast S2048x1 (multiReduction .maximumf [1] S2048 s 0xFF800000#32 reduces_S2048x256_S2048 (.inl rfl) rfl)
    shapeCasts_S2048_S2048x1

/-- The weights: two to the power of the scores less the row's maximum. -/
def pw (s : FVec Ideal S2048x256 .f32) : FVec Ideal S2048x256 .f32 :=
  exp2 (subf s (broadcastTo S2048x256 (mx s) broadcasts_S2048x1_S2048x256))

/-- The sum of the weights by row. -/
def dn (p : FVec Ideal S2048x256 .f32) : FVec Ideal S2048x1 .f32 :=
  shapeCast S2048x1 (multiReduction .add [1] S2048 p 0x00000000#32 reduces_S2048x256_S2048 (.inl rfl) rfl)
    shapeCasts_S2048_S2048x1

/-- One head's output: the weighted sum of the values times the inverse of the weights' sum. -/
def hd (s : FVec Ideal S2048x256 .f32) (v : KB) : FVec Ideal S2048x256 .f32 :=
  mulf (matmul dot_S2048x256_S256x256_S2048x256_1_0_0_1_n_n none (truncf .bf16 (pw s) bitsLt_bf16_f32)
      (flat v) (constant S2048x256 .f32 0x00000000#32))
    (broadcastTo S2048x256 (divf (broadcast S2048x1 (Scalar.ofBits .f32 0x3F800000#32)) (dn (pw s)))
      broadcasts_S2048x1_S2048x256)

/-- Head `h`'s output laid over what the heads before it left. -/
def hsel (h : BitVec 32) (o prev : FVec Ideal S2048x256 .f32) : FVec Ideal S2048x256 .f32 :=
  select (cmpi .eq k0_pay3 (broadcast S2048x256 h)) o prev

/-- The whole block the body stores. -/
def outV (q : QB) (k v : KB) (g : QF) : FVec Ideal S2048x256 .bf16 :=
  truncf .bf16 (mulf
    (hsel 3#32 (hd (sc q k 3#32) v) (hsel 2#32 (hd (sc q k 2#32) v) (hsel 1#32 (hd (sc q k 1#32) v)
    (hsel 0#32 (hd (sc q k 0#32) v) (broadcast S2048x256 (Scalar.ofBits .f32 0x00000000#32)))))) g) bitsLt_bf16_f32

/-- The first head's weights. -/
theorem pay5_eq (q : QB) (k : KB) : k0_pay5 (F := Ideal) q k = pw (sc q k 0#32) := rfl

/-- The last head's weights. -/
theorem pay9_eq (q : QB) (k : KB) : k0_pay9 (F := Ideal) (k0_pay2 q) k0_pay3 k = pw (sc q k 3#32) := rfl

/-- The sum of the last head's weights. -/
theorem pay10_eq (q : QB) (k : KB) : k0_pay10 (F := Ideal) (k0_pay2 q) k0_pay3 k = dn (pw (sc q k 3#32)) := rfl

/-- The last head's weights, rounded. -/
theorem pay11_eq (q : QB) (k : KB) :
    k0_pay11 (F := Ideal) (k0_pay2 q) k0_pay3 k = truncf .bf16 (pw (sc q k 3#32)) bitsLt_bf16_f32 := rfl

/-- The first two heads. -/
theorem pay6_eq (q : QB) (k v : KB) (a : FVec Ideal S2048x256 .f32) (s : FVec Ideal S2048x256 .f32) :
    k0_pay6 (F := Ideal) (k0_pay2 q) k0_pay3 a (pw s) v k v = hsel 1#32 (hd (sc q k 1#32) v) (hsel 0#32 (hd s v) a) := rfl

/-- The third head. -/
theorem pay8_eq (q : QB) (k v : KB) (a : FVec Ideal S2048x256 .f32) :
    k0_pay8 (F := Ideal) (k0_pay2 q) k0_pay3 a k0_pay7 k v = hsel 2#32 (hd (sc q k 2#32) v) a := rfl

/-- The fourth head and the gates. -/
theorem pay1_eq (v : KB) (a : FVec Ideal S2048x256 .f32) (s : FVec Ideal S2048x256 .f32) (g : QF) :
    k0_pay1 (F := Ideal) k0_pay3 a (dn (pw s)) (truncf .bf16 (pw s) bitsLt_bf16_f32) v g
      = truncf .bf16 (mulf (hsel 3#32 (hd s v) a) g) bitsLt_bf16_f32 := rfl

/-- What the body leaves in its output block is `outV` over the blocks it loads. -/
theorem out_eq (q : QB) (k v : KB) (g : QF) (y : S2048x256.Idx) :
    out0_4 (F := Ideal) q k v g y = outV q k v g y := by
  frame_out
  unfold k0_pay12 k0_pay13
  have hq : View.ld q r0_0 = q := View.ld_unit_zero (by decide) _ q
  rw [hq]
  unfold outV
  refine congrFun (?_ : _ = _) y
  refine Eq.trans ?_ (pay1_eq v (hsel 2#32 (hd (sc q k 2#32) v) (hsel 1#32 (hd (sc q k 1#32) v)
    (hsel 0#32 (hd (sc q k 0#32) v) (k0_pay4 (F := Ideal))))) (sc q k 3#32) g)
  rw [← pay10_eq, ← pay11_eq, ← pay8_eq, ← pay6_eq, ← pay5_eq]

/-- The head number of lane `c` is `c / 64`. -/
theorem lane_at (r : Fin 2048) (c : Fin 256) : k0_pay3 (ix2 r c) = BitVec.ofNat 32 (c.val / 64) := by
  pointwise [k0_pay3]
  revert c
  decide +kernel

/-- A score: the product over the lanes of head `h`. -/
theorem sc_at (q : QB) (k : KB) (h : Fin 4) (r : Fin 2048) (j : Fin 256) :
    sc q k (BitVec.ofNat 32 h.val) (ix2 r j)
      = ∑ d : Fin 64, @HMul.hMul EReal EReal EReal _ (q (ix2 r ⟨h.val * 64 + d.val, by omega⟩)) (k (ix3 0 j ⟨h.val * 64 + d.val, by omega⟩)) := by
  refine Eq.trans ?_ (Cert.Band.head_sum (fun x => @HMul.hMul EReal EReal EReal _ (q (ix2 r x)) (k (ix3 0 j x))) h)
  pointwise [sc, qh, flat, k0_pay2]
  simp only [lane_at, Cert.Band.lane_sel, ite_mul, zero_mul]

/-- A row's maximum is at most `b` where every score is. -/
theorem mx_le (s : FVec Ideal S2048x256 .f32) (r : Fin 2048) (b : EReal) :
    mx s (ix2 r 0) ≤ b ↔ ∀ n : Fin 256, s (ix2 r n) ≤ b := by
  have e : mx s (ix2 r 0) = Finset.fold max (Ideal.ofBits FTy.f32 4286578688#32) (fun x => s (ix2 r x)) Finset.univ := by
    pointwise [mx]
  rw [e, Cert.Band.bot_bits, Finset.fold_max_le]
  simp

/-- One head's output at a row and lane. -/
theorem hd_at (s : FVec Ideal S2048x256 .f32) (v : KB) (r : Fin 2048) (c : Fin 256) :
    hd s v (ix2 r c)
      = (∑ n : Fin 256, Ideal.exp2 (s (ix2 r n) - mx s (ix2 r 0)) * v (ix3 0 n c))
        * Ideal.div 1 (∑ n : Fin 256, Ideal.exp2 (s (ix2 r n) - mx s (ix2 r 0))) := by
  pointwise [hd, flat, dn, pw]
  rfl

/-- The stored block at lane `c`: the output of head `c / 64`, times the gate. -/
theorem outV_at (q : QB) (k v : KB) (g : QF) (r : Fin 2048) (c : Fin 256) (h : Fin 4) (hh : c.val / 64 = h.val) :
    outV q k v g (ix2 r c) = @HMul.hMul EReal EReal EReal _ (hd (sc q k (BitVec.ofNat 32 h.val)) v (ix2 r c)) (g (ix2 r c)) := by
  pointwise [outV, hsel]
  simp only [lane_at]
  have e0 := fun (x y : EReal) => Cert.Band.lane_sel (0 : Fin 4) c x y
  have e1 := fun (x y : EReal) => Cert.Band.lane_sel (1 : Fin 4) c x y
  have e2 := fun (x y : EReal) => Cert.Band.lane_sel (2 : Fin 4) c x y
  have e3 := fun (x y : EReal) => Cert.Band.lane_sel (3 : Fin 4) c x y
  simp only [Fin.val_zero, Fin.val_one, Fin.val_two, show ((3 : Fin 4) : ℕ) = 3 from rfl] at e0 e1 e2 e3
  rw [e3, e2, e1, e0, hh]
  fin_cases h <;> simp

end Cert.Mem

end
-- ==== Proof.MemRef.lean ====
module

public import proofs.«01_k».proof.Proof.Gen.ReferenceMemIdeal.Read
public import proofs.«01_k».proof.Proof.BandTab
public import Idealize.ShloMosaic.Lib.Pipeline.ValueKit
public import Idealize.ShloMosaic.Lib.Pointwise

@[expose] public section

set_option maxRecDepth 16384

noncomputable section

namespace Cert.Mem

open Cert.ReferenceMemIdeal Cert.ReferenceMemIdeal.Gen Idealize.ShloMosaic Idealize.ShloMosaic.TcCoe Idealize.SL.Sem
open Idealize.ShloMosaic.Pipeline (Dat)
open Cert.ReferenceMemIdeal.Read

/-- A score of the reference: the product over the lanes of head `h`, times `1/8`. -/
theorem score_at (x0 : FVec Ideal S8x4096x256 .f32) (x1 : FVec Ideal S8x256x256 .f32) (b : Fin 8) (h : Fin 4) (r : Fin 4096)
    (x : Fin 256) :
    val_main_v5 (F := Ideal) x0 x1 (ix4 b h r x)
      = (∑ d : Fin 64, x0 (ix3 b r ⟨h.val * 64 + d.val, by omega⟩) * x1 (ix3 b x ⟨h.val * 64 + d.val, by omega⟩))
          * ((1 / 8 : ℝ) : EReal) := by
  pointwise [val_main_v5, val_main_v4, val_main_v3, val_main_v1, val_main_v0, val_main_cst]
  rw [Cert.Band.eighth_bits]

/-- A maximum over a row's 256 keys. -/
theorem reduce_at (X : FVec Ideal S8x4x4096x256 .f32) (b : Fin 8) (h : Fin 4) (r : Fin 4096) :
    (Host.reduce (FloatOps.maximumf (F := Ideal) (φ := .f32)) X (constant S_ .f32 0xFF800000#32)
      reducesTo_S8x4x4096x256_S8x4x4096_d3 h_S_) (ix3 b h r)
      = Finset.fold max (Ideal.ofBits FTy.f32 4286578688#32) (fun x => X (ix4 b h r x)) Finset.univ := by
  pointwise []

/-- The maximum over the keys of a query's scores. -/
theorem top_at (x0 : FVec Ideal S8x4096x256 .f32) (x1 : FVec Ideal S8x256x256 .f32) (b : Fin 8) (h : Fin 4) (r : Fin 4096) :
    val_main_v6 (F := Ideal) x0 x1 (ix3 b h r)
      = Finset.fold max (Ideal.ofBits FTy.f32 4286578688#32) (fun x => val_main_v5 (F := Ideal) x0 x1 (ix4 b h r x))
        Finset.univ := by
  unfold val_main_v6 val_main_cst_0
  generalize val_main_v5 (F := Ideal) x0 x1 = X
  exact reduce_at X b h r

/-- The maximum the reference subtracts: that one, and at least `-∞`. -/
theorem sub_at (x0 : FVec Ideal S8x4096x256 .f32) (x1 : FVec Ideal S8x256x256 .f32) (b : Fin 8) (h : Fin 4) (r : Fin 4096) :
    val_main_v8 (F := Ideal) x0 x1 (ix3 b h r)
      = max (Ideal.ofBits FTy.f32 4286578688#32) (val_main_v6 (F := Ideal) x0 x1 (ix3 b h r)) := by
  rw [val_main_v8_apply, val_main_v7_apply, val_main_cst_1_apply]; rfl

/-- The reference's row maximum, as a least upper bound. -/
theorem max_le (x0 : FVec Ideal S8x4096x256 .f32) (x1 : FVec Ideal S8x256x256 .f32) (b : Fin 8) (h : Fin 4) (r : Fin 4096)
    (u : EReal) :
    val_main_v8 (F := Ideal) x0 x1 (ix3 b h r) ≤ u ↔ ∀ x, val_main_v5 (F := Ideal) x0 x1 (ix4 b h r x) ≤ u := by
  rw [sub_at, top_at]
  generalize val_main_v5 (F := Ideal) x0 x1 = X
  rw [Cert.Band.bot_bits, max_le_iff, Finset.fold_max_le]
  simp

/-- A probability of the reference. -/
theorem prob_at (x0 : FVec Ideal S8x4096x256 .f32) (x1 : FVec Ideal S8x256x256 .f32) (b : Fin 8) (h : Fin 4) (r : Fin 4096)
    (x : Fin 256) :
    val_main_v16 (F := Ideal) x0 x1 (ix4 b h r x)
      = Ideal.div (Ideal.exp (val_main_v5 (F := Ideal) x0 x1 (ix4 b h r x) - val_main_v8 (F := Ideal) x0 x1 (ix3 b h r)))
        (∑ y, Ideal.exp (val_main_v5 (F := Ideal) x0 x1 (ix4 b h r y) - val_main_v8 (F := Ideal) x0 x1 (ix3 b h r))) := by
  pointwise [val_main_v16, val_main_v15, val_main_v14, val_main_v13, val_main_v12, val_main_v11, val_main_v10, val_main_v9,
    val_main_cst_2]

/-- The reference's result at row `R` and column `c`. -/
theorem ref_at (x0 : FVec Ideal S8x4096x256 .f32) (x1 x2 : FVec Ideal S8x256x256 .f32) (x3 : FVec Ideal S32768x1024 .f32)
    (R : Fin 32768) (c : Fin 256) :
    val_main_v23 (F := Ideal) x0 x1 x2 x3 (ix2 R c)
      = (∑ x, val_main_v16 (F := Ideal) x0 x1
            (ix4 ⟨R.val / 4096, by omega⟩ ⟨c.val / 64, by omega⟩ ⟨R.val % 4096, by omega⟩ x)
          * x2 (ix3 ⟨R.val / 4096, by omega⟩ x c))
        * x3 (ix2 R ⟨768 + c.val, by omega⟩) := by
  pointwise [val_main_v23, val_main_v22, val_main_v21, val_main_v20, val_main_v19, val_main_v18, val_main_v17, val_main_v2]
  refine congrArg (· * _) (Finset.sum_congr rfl fun x _ => (mul_comm _ _).trans ?_)
  refine congrArg (fun z => _ * x2 (ix3 _ x z)) (Fin.ext ?_)
  omega

end Cert.Mem

end
-- ==== Proof.MemFinal.lean ====
module

public import proofs.«01_k».proof.Proof.MemBlock
public import proofs.«01_k».proof.Proof.MemRef
public import proofs.«01_k».proof.Proof.BandFinal
public import proofs.«01_k».proof.Defs
public import Idealize.ShloMosaic.Lib.Pipeline.ValueKit
public import Idealize.ShloMosaic.Lib.Pointwise

@[expose] public section

set_option maxRecDepth 16384

noncomputable section

namespace Cert.Mem

open Cert.KernelMemIdeal Cert.KernelMemIdeal.Gen Idealize.ShloMosaic Idealize.ShloMosaic.TcCoe Idealize.SL.Sem
open Idealize.ShloMosaic.Pipeline (Dat)
open Cert.ReferenceMemIdeal.Read

/-- The host's factor `1 / log 2`. -/
def lg2 : FVec Ideal S_ .f32 := Host.divf (constant S_ .f32 0x3F800000#32) (Host.log (constant S_ .f32 0x40000000#32))

/-- The scaled queries, batch over batch. -/
def qArr (q : FVec Ideal S8x4096x256 .f32) : FVec Ideal S32768x256 .bf16 :=
  shapeCast S32768x256 (truncf .bf16 (mulf q (broadcastInDim S8x4096x256 ![] bcast_S_S8x4096x256
    (mulf (constant S_ .f32 0x3E000000#32) lg2))) bitsLt_bf16_f32) shapeCasts_S8x4096x256_S32768x256

/-- The host's factor is the real number `1 / log 2`. -/
theorem lg2_at (i : S_.Idx) : lg2 i = ((1 / Real.log 2 : ℝ) : EReal) := by
  pointwise [lg2]
  have h : Real.log 2 ≠ 0 := (Real.log_pos (by norm_num)).ne'
  rw [Cert.Band.two_bits, Ideal.log_coe, if_neg (by norm_num), Ideal.div_coe h, one_mul]

/-- A scaled query: the query times `1/8` and `1 / log 2`. -/
theorem qArr_at (q : FVec Ideal S8x4096x256 .f32) (R : Fin 32768) (x : Fin 256) :
    qArr q (ix2 R x) = @HMul.hMul EReal EReal EReal _ (q (ix3 ⟨R.val / 4096, by omega⟩ ⟨R.val % 4096, by omega⟩ x))
      (((1 / 8 : ℝ) : EReal) * ((1 / Real.log 2 : ℝ) : EReal)) := by
  pointwise [qArr]
  rw [Cert.Band.eighth_bits, lg2_at]

/-- Scaling queries by `L` scales the score by `L`. -/
theorem score_scale (q k : Fin 64 → ℝ) (L : ℝ) :
    (∑ d, (q d : EReal) * (((1 / 8 : ℝ) : EReal) * (L : EReal)) * (k d : EReal))
      = (L : EReal) * ((∑ d, (q d : EReal) * (k d : EReal)) * ((1 / 8 : ℝ) : EReal)) := by
  simp only [← EReal.coe_mul, ← Cert.Band.coe_sum]
  congr 1
  rw [Finset.sum_mul, Finset.mul_sum]
  refine Finset.sum_congr rfl fun d _ => ?_
  ring

variable (m : (ℓ : Loc nD τ sig) → Buf (Elt Ideal) ℓ)

/-- The array of queries the kernel is given. -/
theorem v6_eq (c : Dev nD) : V m c main_v6 = qArr (m ((c : Thread nD τ).loc main_arg0)) := by
  unfold V
  simp only [hostOps0, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp <;> (try dsimp only [Matrix.cons_val]) <;> (try after_results_simp) <;> rfl

/-- Which block of its array each window takes at each step. -/
theorem idx : ∀ t : Fin cfg0.N, win0_0.index t = ![t.val, 0] ∧ win0_1.index t = ![t.val / 2, 0, 0]
    ∧ win0_2.index t = ![t.val / 2, 0, 0] ∧ win0_3.index t = ![t.val, 3] ∧ win0_4.index t = ![t.val, 0] :=
  (by decide +kernel : ∀ t : Fin grid0.N, _)

/-- The queries a step sees: its 2048 rows. -/
theorem in0_at (c : Dev nD) (t : Fin cfg0.N) (r : Fin 2048) (x : Fin 256) :
    iblk m c 0 t (ix2 r x) = qArr (m ((c : Thread nD τ).loc main_arg0))
      (ix2 ⟨2048 * t.val + r.val, by have := t.isLt; have : cfg0.N = 16 := rfl; omega⟩ x) := by
  rw [← v6_eq m c]
  blk_simp [iblk]
  generalize V m c main_v6 = X
  blk_ext [(idx t).1]

/-- The memory's keys a step sees: those of its batch. -/
theorem in1_at (c : Dev nD) (t : Fin cfg0.N) (z : Fin 1) (r x : Fin 256) :
    @Eq EReal (iblk m c 1 t (ix3 z r x)) (m ((c : Thread nD τ).loc main_arg1)
      (ix3 ⟨t.val / 2, by have := t.isLt; have : cfg0.N = 16 := rfl; omega⟩ r x)) := by
  blk_point [iblk, V, (idx t).2.1]

/-- The memory's values a step sees: those of its batch. -/
theorem in2_at (c : Dev nD) (t : Fin cfg0.N) (z : Fin 1) (r x : Fin 256) :
    @Eq EReal (iblk m c 2 t (ix3 z r x)) (m ((c : Thread nD τ).loc main_arg2)
      (ix3 ⟨t.val / 2, by have := t.isLt; have : cfg0.N = 16 := rfl; omega⟩ r x)) := by
  blk_point [iblk, V, (idx t).2.2.1]

/-- The gates a step sees: its 2048 rows, columns 768 to 1023. -/
theorem in3_at (c : Dev nD) (t : Fin cfg0.N) (r : Fin 2048) (x : Fin 256) :
    iblk m c 3 t (ix2 r x) = m ((c : Thread nD τ).loc main_arg3)
      (ix2 ⟨2048 * t.val + r.val, by have := t.isLt; have : cfg0.N = 16 := rfl; omega⟩ ⟨768 + x.val, by omega⟩) := by
  blk_simp [iblk]
  rw [V_main_arg3 m c]
  blk_ext [(idx t).2.2.2.1]

/-- The result array's block of step `t` is rows `2048 * t` on. -/
theorem out_emb (t : Fin cfg0.N) (r : Fin 2048) (x : Fin 256) :
    ((View.whole main_v9).slice (win0_4.rect t)).emb (ix2 r x)
      = ix2 ⟨2048 * t.val + r.val, by have := t.isLt; have : cfg0.N = 16 := rfl; omega⟩ x := by
  blk_ext [(idx t).2.2.2.2]

/-- A head's row of the kernel, in powers of two, is the reference's, in powers of `e`, when queries and keys are real. -/
theorem row_eq (q : FVec Ideal S8x4096x256 .f32) (k v : FVec Ideal S8x256x256 .f32)
    (qr : S8x4096x256.Idx → ℝ) (kr : S8x256x256.Idx → ℝ) (hq : ∀ i, q i = (qr i : EReal)) (hk : ∀ i, k i = (kr i : EReal))
    (B : Fin 8) (P : Fin 4096) (x0 : QB) (x1 x2 : KB) (r : Fin 2048) (c : Fin 256) (h : Fin 4)
    (h0 : ∀ x, @Eq EReal (x0 (ix2 r x)) (q (ix3 B P x) * (((1 / 8 : ℝ) : EReal) * ((1 / Real.log 2 : ℝ) : EReal))))
    (h1 : ∀ j x, @Eq EReal (x1 (ix3 0 j x)) (k (ix3 B j x))) (h2 : ∀ j, @Eq EReal (x2 (ix3 0 j c)) (v (ix3 B j c))) :
    hd (sc x0 x1 (BitVec.ofNat 32 h.val)) x2 (ix2 r c)
      = ∑ x, val_main_v16 (F := Ideal) q k (ix4 B h P x) * v (ix3 B x c) := by
  rw [hd_at]
  simp only [prob_at]
  have hS' := score_at q k B h P
  have hS := sc_at x0 x1 h r
  refine Cert.Band.soft (id : Fin 256 → Fin 256) Function.injective_id
    (fun n => sc x0 x1 (BitVec.ofNat 32 h.val) (ix2 r n)) (fun n => x2 (ix3 0 n c)) _ _ (1 / Real.log 2) rfl ?_ ?_ ?_ 0 ?_ ?_ _ _
    (fun u => mx_le _ r u) (fun u => max_le q k B h P u)
  · intro x
    dsimp only [id]
    rw [hS, hS']
    simp only [h0, h1, hq, hk]
    exact score_scale _ _ _
  · intro n hn
    exact absurd rfl (hn n)
  · intro x
    rw [hS']
    simp only [hq, hk, ← EReal.coe_mul, ← Cert.Band.coe_sum]
    exact EReal.coe_ne_top _
  · rw [hS']
    simp only [hq, hk, ← EReal.coe_mul, ← Cert.Band.coe_sum]
    exact EReal.coe_ne_bot _
  · intro x _
    exact h2 x

/-- Under the precondition the queries and the memory's keys are real numbers. -/
theorem pre_real [Cert.Pre_mem_finite.Facts] (h : Pre_KernelMemIdeal_mem_finite m) (c : Dev nD) :
    (∀ i, ∃ r : ℝ, m ((c : Thread nD τ).loc main_arg0) i = (r : EReal))
      ∧ (∀ i, ∃ r : ℝ, m ((c : Thread nD τ).loc main_arg1) i = (r : EReal)) := by
  refine ⟨fun i => ?_, fun i => ?_⟩
  · have h0 := congrFun (h c).1 i
    pointwise [Cert.Pre_mem_finite.fn] at h0
    exact Cert.Band.real_of_lt h0
  · have h0 := congrFun (h c).2 i
    pointwise [Cert.Pre_mem_finite.fn] at h0
    exact Cert.Band.real_of_lt h0

/-- What a grid step stores is the reference's result at its rows, when queries and keys are real numbers. -/
theorem block_eq (q : FVec Ideal S8x4096x256 .f32) (k v : FVec Ideal S8x256x256 .f32) (g : FVec Ideal S32768x1024 .f32)
    (qr : S8x4096x256.Idx → ℝ) (kr : S8x256x256.Idx → ℝ) (hq : ∀ i, q i = (qr i : EReal)) (hk : ∀ i, k i = (kr i : EReal))
    (T : Fin 16) (x0 : QB) (x1 x2 : KB) (x3 : QF) (r : Fin 2048) (c : Fin 256)
    (h0 : ∀ x, x0 (ix2 r x) = qArr q (ix2 ⟨2048 * T.val + r.val, by omega⟩ x))
    (h1 : ∀ j x, @Eq EReal (x1 (ix3 0 j x)) (k (ix3 ⟨T.val / 2, by omega⟩ j x)))
    (h2 : ∀ j, @Eq EReal (x2 (ix3 0 j c)) (v (ix3 ⟨T.val / 2, by omega⟩ j c)))
    (h3 : x3 (ix2 r c) = g (ix2 ⟨2048 * T.val + r.val, by omega⟩ ⟨768 + c.val, by omega⟩)) :
    @Eq EReal (outV x0 x1 x2 x3 (ix2 r c)) (val_main_v23 (F := Ideal) q k v g (ix2 ⟨2048 * T.val + r.val, by omega⟩ c)) := by
  rw [ref_at]
  refine (outV_at _ _ _ _ r c ⟨c.val / 64, by omega⟩ rfl).trans ?_
  rw [h3]
  have hB : (⟨(2048 * T.val + r.val) / 4096, by omega⟩ : Fin 8) = ⟨T.val / 2, by omega⟩ := Fin.ext (by dsimp only; omega)
  dsimp only
  rw [hB]
  have e := row_eq q k v qr kr hq hk ⟨T.val / 2, by omega⟩ ⟨(2048 * T.val + r.val) % 4096, by omega⟩ x0 x1 x2 r c
    ⟨c.val / 64, by omega⟩ (fun z => by
      have e := (h0 z).trans (qArr_at _ _ _)
      dsimp only at e
      rw [hB] at e
      exact e) h1 h2
  generalize val_main_v16 (F := Ideal) q k = pr at e ⊢
  generalize hd (sc x0 x1 _) x2 (ix2 r c) = hv at e ⊢
  rw [e]

/-- The result array after the run is the reference's result. -/
theorem final (c : Dev nD) (qr : S8x4096x256.Idx → ℝ) (kr : S8x256x256.Idx → ℝ)
    (hq : ∀ i, m ((c : Thread nD τ).loc main_arg0) i = (qr i : EReal))
    (hk : ∀ i, m ((c : Thread nD τ).loc main_arg1) i = (kr i : EReal)) : (dats m 0 c).arrAt 4 (cfgs 0).N
    = val_main_v23 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  rw [out_eq]
  obtain ⟨r, x, hy⟩ : ∃ (r : Fin 2048) (x : Fin 256), y = ix2 r x :=
    ⟨y 0, y 1, funext fun a => match a with | ⟨0, _⟩ => rfl | ⟨1, _⟩ => rfl⟩
  rw [hy]
  refine Eq.trans ?_ (congrArg _ (out_emb t r x).symm)
  have h0 := in0_at m c t r
  have h1 := fun j z => in1_at m c t 0 j z
  have h2 := fun j => in2_at m c t 0 j x
  have h3 := in3_at m c t r x
  generalize iblk m c 0 t = x0 at h0 ⊢
  generalize iblk m c 1 t = x1 at h1 ⊢
  generalize iblk m c 2 t = x2 at h2 ⊢
  generalize iblk m c 3 t = x3 at h3 ⊢
  generalize m ((c : Thread nD τ).loc main_arg0) = q at hq h0 ⊢
  generalize m ((c : Thread nD τ).loc main_arg1) = k at hk h1 ⊢
  generalize m ((c : Thread nD τ).loc main_arg2) = v at h2 ⊢
  generalize m ((c : Thread nD τ).loc main_arg3) = g at h3 ⊢
  exact block_eq q k v g qr kr hq hk t x0 x1 x2 x3 r x h0 h1 h2 h3

end Cert.Mem

end
-- ==== Proof.MemClaim.lean ====
module

public import proofs.«01_k».proof.Defs
public import proofs.«01_k».proof.Proof.Gen.KernelMem.Frame
public import proofs.«01_k».proof.Proof.Gen.KernelMemIdeal.Frame
public import proofs.«01_k».proof.Proof.Gen.KernelMemIdeal.Value
public import proofs.«01_k».proof.Proof.Gen.ReferenceMemIdeal.Run
public import proofs.«01_k».proof.Proof.Gen.ReferenceMemIdeal.Read
public import proofs.«01_k».proof.Proof.MemFinal
public import Idealize.ShloMosaic.Adequacy
public import Idealize.ShloMosaic.Init

@[expose] public section

noncomputable section

namespace Cert.Mem

open Idealize.ShloMosaic Idealize.SL.Sem Cert.KernelMem

/-- The reference of the memory attention leaves its arguments as they were; it declares no semaphore. -/
theorem ref_quiescent : Cert.quiescent_ReferenceMemIdeal (hReferenceMemIdeal := Cert.ReferenceMemIdeal.Gen.facts) := fun m g _ =>
  (θ_run Cert.ReferenceMemIdeal.defs _ _).mono
    (fun r h => ⟨fun c => (h c).2, sem_eq_zero_of_no_sems (by decide) r.2⟩)
    (Cert.ReferenceMemIdeal.Value.run m g)

/-- The kernel's result rows are the reference's, when queries and the memory's keys are real numbers. -/
theorem claim (hp : Cert.Pre_mem_finite.Facts) : Cert.algebraic_KernelMemIdeal_ReferenceMemIdeal_pre_mem_finite
    (hKernelMemIdeal := Cert.KernelMemIdeal.Gen.facts) (hReferenceMemIdeal := Cert.ReferenceMemIdeal.Gen.facts)
    (hPre_mem_finite := hp) := by
  haveI := hp
  pair_intro
  · run_from Cert.KernelMemIdeal.Value.run_blocks m g
  · run_from Cert.ReferenceMemIdeal.Value.run m' g'
    obtain ⟨h0, h1⟩ := pre_real m hpre c
    choose qr hq using h0
    choose kr hk using h1
    exact (Cert.ReferenceMemIdeal.Read.val_main_v23_eq _ _ _ _).trans (final m c qr kr hq hk).symm

end Cert.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.BandFinal
public import proofs.«01_k».proof.Proof.OutClaim
public import proofs.«01_k».proof.Proof.InClaim
public import proofs.«01_k».proof.Proof.GmlpClaim
public import proofs.«01_k».proof.Proof.MemkvClaim
public import proofs.«01_k».proof.Proof.MemClaim
public import Idealize.ShloMosaic.Adequacy
public import Idealize.ShloMosaic.Init

@[expose] public section

noncomputable section

namespace Cert.Proof

open Idealize.ShloMosaic Idealize.SL.Sem Cert.Kernel

/-- The printed precondition's side conditions. -/
theorem preFacts : Cert.Pre_finite.Facts := ⟨by decide, by decide⟩

/-- The side conditions of the memory attention's printed precondition. -/
theorem memPreFacts : Cert.Pre_mem_finite.Facts := ⟨by decide, by decide⟩

/-- The kernel's result array is the reference's, when queries, keys and bias are real numbers. -/
theorem band_claim : Cert.algebraic_KernelIdeal_ReferenceIdeal_pre_finite (hKernelIdeal := Cert.KernelIdeal.Gen.facts)
    (hReferenceIdeal := Cert.ReferenceIdeal.Gen.facts) (hPre_finite := preFacts) := by
  haveI := preFacts
  pair_intro
  · run_from Cert.KernelIdeal.Value.run_blocks m g
  · run_from Cert.ReferenceIdeal.Value.run m' g'
    obtain ⟨h0, h1, h4⟩ := Cert.Band.pre_real m hpre c
    choose qr hq using h0
    choose kr hk using h1
    choose br hb using h4
    obtain ⟨a0, a1, a2, a3, a4⟩ := hagree c
    rw [Cert.ReferenceIdeal.Read.val_main_v83_eq m' c, a0, a1, a2, a3, a4]
    exact (Cert.Band.final m c qr kr br hq hk hb).symm

/-- The reference leaves its arguments as they were; it declares no semaphore. -/
theorem ref_quiescent : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run m g)

/-- Every claim of the certificate, with the programs' side conditions. -/
theorem claim : Cert.Claim := ⟨Cert.Kernel.Gen.facts, Cert.KernelIdeal.Gen.facts, Cert.ReferenceIdeal.Gen.facts,
  Cert.KernelOut.Gen.facts, Cert.KernelOutIdeal.Gen.facts, Cert.ReferenceOutIdeal.Gen.facts,
  Cert.KernelIn.Gen.facts, Cert.KernelInIdeal.Gen.facts, Cert.ReferenceInIdeal.Gen.facts,
  Cert.KernelGmlp.Gen.facts, Cert.KernelGmlpIdeal.Gen.facts, Cert.ReferenceGmlpIdeal.Gen.facts,
  Cert.KernelMemkv.Gen.facts, Cert.KernelMemkvIdeal.Gen.facts, Cert.ReferenceMemkvIdeal.Gen.facts,
  Cert.KernelMem.Gen.facts, Cert.KernelMemIdeal.Gen.facts, Cert.ReferenceMemIdeal.Gen.facts,
  preFacts, memPreFacts,
  fun m g _ => Cert.Kernel.Gen.frame m g, fun m g _ => Cert.KernelIdeal.Gen.frame m g, fun m g _ => Cert.KernelIdeal.Gen.frame m g,
  ref_quiescent, fun m g _ => ref_quiescent m g trivial,
  fun m g _ => Cert.KernelOut.Gen.frame m g, fun m g _ => Cert.KernelOutIdeal.Gen.frame m g, Cert.Out.ref_quiescent,
  fun m g _ => Cert.KernelIn.Gen.frame m g, fun m g _ => Cert.KernelInIdeal.Gen.frame m g, Cert.In.ref_quiescent,
  fun m g _ => Cert.KernelGmlp.Gen.frame m g, fun m g _ => Cert.KernelGmlpIdeal.Gen.frame m g, Cert.Gmlp.ref_quiescent,
  fun m g _ => Cert.KernelMemkv.Gen.frame m g, fun m g _ => Cert.KernelMemkvIdeal.Gen.frame m g, Cert.Memkv.ref_quiescent,
  fun m g _ => Cert.KernelMem.Gen.frame m g, fun m g _ => Cert.KernelMemIdeal.Gen.frame m g, fun m g _ => Cert.KernelMemIdeal.Gen.frame m g,
  Cert.Mem.ref_quiescent, fun m g _ => Cert.Mem.ref_quiescent m g trivial,
  trivial, band_claim, trivial, Cert.Out.claim, trivial, Cert.In.claim, trivial, Cert.Gmlp.claim, trivial, Cert.Memkv.claim, trivial, Cert.Mem.claim memPreFacts⟩

end Cert.Proof

end
